-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x1536 : Shape := ⟨3, ![24, 1024, 1536]⟩
abbrev S8960x1536 : Shape := ⟨2, ![8960, 1536]⟩
abbrev S24576x1536 : Shape := ⟨2, ![24576, 1536]⟩
abbrev S1x1 : Shape := ⟨2, ![1, 1]⟩
abbrev S256x1536 : Shape := ⟨2, ![256, 1536]⟩
abbrev S8x1536 : Shape := ⟨2, ![8, 1536]⟩
abbrev S32x8x1536 : Shape := ⟨3, ![32, 8, 1536]⟩
abbrev S1x8x1536 : Shape := ⟨3, ![1, 8, 1536]⟩
abbrev S1 : Shape := ⟨1, ![1]⟩
abbrev S1x1x1 : Shape := ⟨3, ![1, 1, 1]⟩
abbrev S1536x8960 : Shape := ⟨2, ![1536, 8960]⟩
abbrev S8960x384 : Shape := ⟨2, ![8960, 384]⟩
abbrev S1536x256 : Shape := ⟨2, ![1536, 256]⟩
abbrev S256x384 : Shape := ⟨2, ![256, 384]⟩
abbrev S384x256 : Shape := ⟨2, ![384, 256]⟩
abbrev S24576x8960 : Shape := ⟨2, ![24576, 8960]⟩
abbrev S24576x1 : Shape := ⟨2, ![24576, 1]⟩
abbrev S1024x1536 : Shape := ⟨2, ![1024, 1536]⟩
abbrev S1536x1280 : Shape := ⟨2, ![1536, 1280]⟩
abbrev S1024x1280 : Shape := ⟨2, ![1024, 1280]⟩
abbrev S1024x1 : Shape := ⟨2, ![1024, 1]⟩
abbrev S1024x128 : Shape := ⟨2, ![1024, 128]⟩
abbrev S1024 : Shape := ⟨1, ![1024]⟩
abbrev S24x1024x8960 : Shape := ⟨3, ![24, 1024, 8960]⟩
abbrev S_ : Shape := ⟨0, ![]⟩
abbrev S24x1024 : Shape := ⟨2, ![24, 1024]⟩

abbrev nBuf : Space → Nat
  | .hbm => 13
  | .vmem => 21
  | .smem => 3
  | _ => 0

abbrev bufTy : (tb : Table) → Fin (tcTables nBuf tb) → BufTy
  | .hbm, ⟨0, _⟩ => ⟨S24x1024x1536, .bf16⟩
  | .hbm, ⟨1, _⟩ => ⟨S8960x1536, .bf16⟩
  | .hbm, ⟨2, _⟩ => ⟨S24576x1536, .bf16⟩
  | .hbm, ⟨3, _⟩ => ⟨S1x1, .f32⟩
  | .hbm, ⟨4, _⟩ => ⟨S1536x8960, .bf16⟩
  | .hbm, ⟨5, _⟩ => ⟨S8960x384, .i8⟩
  | .hbm, ⟨6, _⟩ => ⟨S24576x8960, .bf16⟩
  | .hbm, ⟨7, _⟩ => ⟨S24576x1536, .i8⟩
  | .hbm, ⟨8, _⟩ => ⟨S24576x1, .f32⟩
  | .hbm, ⟨9, _⟩ => ⟨S24x1024x8960, .bf16⟩
  | .hbm, ⟨10, _⟩ => ⟨S_, .f32⟩
  | .hbm, ⟨11, _⟩ => ⟨S24x1024x1536, .i8⟩
  | .hbm, ⟨12, _⟩ => ⟨S24x1024, .f32⟩
  | .local _ .vmem, ⟨0, _⟩ => ⟨S256x1536, .bf16⟩
  | .local _ .vmem, ⟨1, _⟩ => ⟨S256x1536, .bf16⟩
  | .local _ .vmem, ⟨2, _⟩ => ⟨S8x1536, .f32⟩
  | .local _ .vmem, ⟨3, _⟩ => ⟨S256x1536, .bf16⟩
  | .local _ .vmem, ⟨4, _⟩ => ⟨S256x1536, .bf16⟩
  | .local _ .vmem, ⟨5, _⟩ => ⟨S1536x256, .bf16⟩
  | .local _ .vmem, ⟨6, _⟩ => ⟨S1536x256, .bf16⟩
  | .local _ .vmem, ⟨7, _⟩ => ⟨S256x384, .i8⟩
  | .local _ .vmem, ⟨8, _⟩ => ⟨S256x384, .i8⟩
  | .local _ .vmem, ⟨9, _⟩ => ⟨S1024x1536, .bf16⟩
  | .local _ .vmem, ⟨10, _⟩ => ⟨S1024x1536, .bf16⟩
  | .local _ .vmem, ⟨11, _⟩ => ⟨S1536x1280, .bf16⟩
  | .local _ .vmem, ⟨12, _⟩ => ⟨S1536x1280, .bf16⟩
  | .local _ .vmem, ⟨13, _⟩ => ⟨S1024x1280, .bf16⟩
  | .local _ .vmem, ⟨14, _⟩ => ⟨S1024x1280, .bf16⟩
  | .local _ .vmem, ⟨15, _⟩ => ⟨S1024x1536, .i8⟩
  | .local _ .vmem, ⟨16, _⟩ => ⟨S1024x1536, .i8⟩
  | .local _ .vmem, ⟨17, _⟩ => ⟨S1024x1, .f32⟩
  | .local _ .vmem, ⟨18, _⟩ => ⟨S1024x1, .f32⟩
  | .local _ .vmem, ⟨19, _⟩ => ⟨S1024x1536, .bf16⟩
  | .local _ .vmem, ⟨20, _⟩ => ⟨S1024x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S24x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_stg5_1 : Ref sig .tc := ⟨.vmem, 18, rfl⟩
abbrev cc2_scratch0 : Ref sig .tc := ⟨.vmem, 19, rfl⟩
abbrev cc2_scratch1 : Ref sig .tc := ⟨.vmem, 20, rfl⟩
abbrev cc0_stg1_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![35], ![false]⟩

def k0_cond2 (i : grid0.Coords) : BitVec 1 :=
  let arg0 : BitVec 32 := BitVec.ofNat 32 (i 0).val
  let c34_i32 : BitVec 32 := 34#32
  let v13 : BitVec 1 := Scalar.cmpi .eq arg0 c34_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![35], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1536x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x384 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![24, 7], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1536x1280 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1280 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x1536 .i8 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== ReferenceIdeal.lean ====
abbrev S24x1024x1536 : Shape := ⟨3, ![24, 1024, 1536]⟩
abbrev S8960x1536 : Shape := ⟨2, ![8960, 1536]⟩
abbrev S24x1024x8960 : Shape := ⟨3, ![24, 1024, 8960]⟩
abbrev S8960x384 : Shape := ⟨2, ![8960, 384]⟩
abbrev S1x1 : Shape := ⟨2, ![1, 1]⟩
abbrev S24x1024 : Shape := ⟨2, ![24, 1024]⟩
abbrev S1x8960x1536 : Shape := ⟨3, ![1, 8960, 1536]⟩
abbrev S1 : Shape := ⟨1, ![1]⟩
abbrev S1x1x1 : Shape := ⟨3, ![1, 1, 1]⟩
abbrev S24x1024x1 : Shape := ⟨3, ![24, 1024, 1]⟩
abbrev S8960x384x4 : Shape := ⟨3, ![8960, 384, 4]⟩
abbrev S8960x384x1 : Shape := ⟨3, ![8960, 384, 1]⟩
abbrev S_ : Shape := ⟨0, ![]⟩

abbrev nBuf : Space → Nat
  | .hbm => 8
  | .vmem => 6
  | .smem => 1
  | _ => 0

abbrev bufTy : (tb : Table) → Fin (tcTables nBuf tb) → BufTy
  | .hbm, ⟨0, _⟩ => ⟨S24x1024x1536, .bf16⟩
  | .hbm, ⟨1, _⟩ => ⟨S8960x1536, .bf16⟩
  | .hbm, ⟨2, _⟩ => ⟨S24x1024x8960, .bf16⟩
  | .hbm, ⟨3, _⟩ => ⟨S8960x384, .i8⟩
  | .hbm, ⟨4, _⟩ => ⟨S1x1, .f32⟩
  | .hbm, ⟨5, _⟩ => ⟨S24x1024x1536, .i8⟩
  | .hbm, ⟨6, _⟩ => ⟨S24x1024, .f32⟩
  | .hbm, ⟨7, _⟩ => ⟨S_, .f32⟩
  | .local _ .vmem, ⟨0, _⟩ => ⟨S24x1024x1536, .bf16⟩
  | .local _ .vmem, ⟨1, _⟩ => ⟨S8960x1536, .bf16⟩
  | .local _ .vmem, ⟨2, _⟩ => ⟨S24x1024x8960, .bf16⟩
  | .local _ .vmem, ⟨3, _⟩ => ⟨S8960x384, .i8⟩
  | .local _ .vmem, ⟨4, _⟩ => ⟨S24x1024x1536, .i8⟩
  | .local _ .vmem, ⟨5, _⟩ => ⟨S24x1024, .f32⟩
  | .local _ .smem, ⟨0, _⟩ => ⟨S1x1, .f32⟩
  | _, _ => ⟨S24x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024x8960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x384 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024x1536 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Gamma.lean ====
/-
  The first launch (`gamma`, 35 points), at any float values.

  At point `t` the body adds the magnitudes of a block of 256 rows of the weights, eight rows at a time, into a scratch
  accumulator of 8×1536 words, which it clears at the first point; at the last point it stores the mean of them all into
  a one-word output. `acc` is the accumulator after each point, `dat` the proof data of the launch entered from contents
  `V`, `body_obligation` what the pipeline library asks of the body.
-/
module

public import proofs.«01_k».proof.Proof.Gen.Kernel.Launch
public import proofs.«01_k».proof.Proof.Gen.Kernel.Points
public import proofs.«01_k».proof.Proof.Gen.Kernel.Skeleton
public import Idealize.ShloMosaic.Lib.Pipeline.FrameBody
public import Idealize.ShloMosaic.Lib.Pipeline.Value
public import Idealize.ShloMosaic.Lib.Pipeline.Regions
public import Idealize.ShloMosaic.Lib.Ring
public import Idealize.ShloMosaic.Lib.Tactic
public import Idealize.ShloMosaic.Lib.WordCmp
public import Idealize.ShloMosaic.Lib.Pipeline.ValueKit.Acc
public import Idealize.ShloMosaic.Lib.Pipeline.TableIdle

@[expose] public section

set_option maxRecDepth 16384

noncomputable section

namespace Cert.Kernel.Gamma

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch is taken at the first point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 35 = 0 :=
  (fun t => by
    have ht : t.val < 35 := Nat.lt_of_lt_of_eq t.isLt N_0
    have e0 : (grid0.coords t 0).val = t.val / 1 % 35 := Pipeline.Grid.coords_val t 0 (by decide) rfl
    simp only [cond0, e0]
    word_cmp
   : ∀ t : Fin grid0.N, cond0 (grid0.coords t) ↔ t.val % 35 = 0)

/-- The second branch is taken at the last point only. -/
abbrev cond1 (i : grid0.Coords) : Prop := k0_cond2 i = 1#1
theorem hcond1 : ∀ t : Fin cfg0.N, cond1 (grid0.coords t) ↔ t.val % 35 = 34 :=
  (fun t => by
    have ht : t.val < 35 := Nat.lt_of_lt_of_eq t.isLt N_0
    have e0 : (grid0.coords t 0).val = t.val / 1 % 35 := Pipeline.Grid.coords_val t 0 (by decide) rfl
    simp only [cond1, k0_cond2, e0]
    word_cmp
   : ∀ t : Fin grid0.N, cond1 (grid0.coords t) ↔ t.val % 35 = 34)

/-- The output is idle, and not written back, at every point but the last. -/
theorem idleAt1 : ∀ t : Fin cfg0.N, ¬cond1 (grid0.coords t) → cfg0.idle 1 (grid0.coords t) = true := by decide +kernel
theorem noFlush1 : ∀ t : Fin cfg0.N, ¬cond1 (grid0.coords t) → (cfg0.win 1).flush t = false := by decide +kernel
theorem liveAt1 : ∀ t : Fin cfg0.N, cond1 (grid0.coords t) → cfg0.idle 1 (grid0.coords t) = false := by decide +kernel

/-! ## The body on any staging memrefs -/

set_option maxHeartbeats 1000000 in
/-- At the first point: the accumulator, whatever it held, ends at the block's sums over zeros. -/
theorem gamma_first (c : Dev nD) (i : grid0.Coords) (arg1 : Memref sig .tc .vmem S256x1536 .bf16) (harg1 : arg1.IsWhole) (arg2 : Memref sig .tc .smem S1x1 .f32) (harg2 : arg2.IsWhole) (arg3 : Memref sig .tc .vmem S8x1536 .f32) (harg3 : arg3.IsWhole) (hc0 : cond0 i) (hc1 : ¬cond1 i)
    (x0 : Vec F S256x1536 .bf16) (E : Set ℕ) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k0_pay2 x0 (k0_pay1 (F := F)))) -∗ K ⟨⟩))
      ⊢ wp frame (wpE (defs₀ (F := F)) Variants.none c none) E (cc0_gamma i arg1 harg1 arg2 harg2 arg3 harg3) K := by
  simp only [cc0_gamma_eq_skeleton]; unfold cc0_gamma_skel
  unfold owns
  iintro ⟨⟨%f0, %hf0, H0⟩, ⟨%ds, %fs, -, HS⟩, Hk⟩
  obtain rfl := harg1.eq_unread hf0
  sl_exec (disch := first | sl_exact hc0 | sl_exact hc1)
  sl_step
  iapply Hk
  isplitl [H0]
  · iexists _; isplitr; · ipureintro; exact harg1.read_unread _
    iexact H0
  iexists _; isplitr; swap; · iexact HS
  ipureintro
  sl_unfold_words
  rw [View.read_writes_eq_canon _ _ _ (View.cover_of_tiledL _ S8x1536.size (by sl_kernel_rfl))]
  simp (disch := decide) only [View.canon_cons_unit_lit', View.ld_unit_lit', View.readAt_eq_ld, Memref.IsWhole.read_unread, View.readCov_unit_lit', View.readCov_cons_unit_lit', View.read_writes_junk_eq_canon]

set_option maxHeartbeats 1000000 in
/-- At a point between: the block's sums are added to the accumulator. -/
theorem gamma_next (c : Dev nD) (i : grid0.Coords) (arg1 : Memref sig .tc .vmem S256x1536 .bf16) (harg1 : arg1.IsWhole) (arg2 : Memref sig .tc .smem S1x1 .f32) (harg2 : arg2.IsWhole) (arg3 : Memref sig .tc .vmem S8x1536 .f32) (harg3 : arg3.IsWhole) (hc0 : ¬cond0 i) (hc1 : ¬cond1 i)
    (x0 : Vec F S256x1536 .bf16) (xs : Vec F S8x1536 .f32) (E : Set ℕ) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k0_pay2 x0 xs)) -∗ K ⟨⟩))
      ⊢ wp frame (wpE (defs₀ (F := F)) Variants.none c none) E (cc0_gamma i arg1 harg1 arg2 harg2 arg3 harg3) K := by
  simp only [cc0_gamma_eq_skeleton]; unfold cc0_gamma_skel
  unfold owns
  iintro ⟨⟨%f0, %hf0, H0⟩, ⟨%fs, %hfs, HS⟩, Hk⟩
  obtain rfl := harg1.eq_unread hf0; obtain rfl := harg3.eq_unread hfs
  sl_exec (disch := first | sl_exact hc0 | sl_exact hc1)
  sl_step
  iapply Hk
  isplitl [H0]
  · iexists _; isplitr; · ipureintro; exact harg1.read_unread _
    iexact H0
  iexists _; isplitr; swap; · iexact HS
  ipureintro
  sl_unfold_words
  rw [View.read_writes_eq_canon _ _ _ (View.cover_of_tiledL _ S8x1536.size (by sl_kernel_rfl))]
  simp (disch := decide) only [View.canon_cons_unit_lit', View.ld_unit_lit', View.readAt_eq_ld, Memref.IsWhole.read_unread, View.readCov_unit_lit', View.readCov_cons_unit_lit', View.read_writes_junk_eq_canon]

set_option maxHeartbeats 1000000 in
/-- At the last point: the same, and the output word ends at the mean read off the accumulator. -/
theorem gamma_last (c : Dev nD) (i : grid0.Coords) (arg1 : Memref sig .tc .vmem S256x1536 .bf16) (harg1 : arg1.IsWhole) (arg2 : Memref sig .tc .smem S1x1 .f32) (harg2 : arg2.IsWhole) (arg3 : Memref sig .tc .vmem S8x1536 .f32) (harg3 : arg3.IsWhole) (hc0 : ¬cond0 i) (hc1 : cond1 i)
    (x0 : Vec F S256x1536 .bf16) (xs : Vec F S8x1536 .f32) (E : Set ℕ) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (fun _ => k0_pay3 (k0_pay2 x0 xs)) ∗ owns (c : Thread nD τ) arg3 fullShare (k0_pay2 x0 xs)) -∗ K ⟨⟩))
      ⊢ wp frame (wpE (defs₀ (F := F)) Variants.none c none) E (cc0_gamma i arg1 harg1 arg2 harg2 arg3 harg3) K := by
  simp only [cc0_gamma_eq_skeleton]; unfold cc0_gamma_skel
  unfold owns
  iintro ⟨⟨%f0, %hf0, H0⟩, ⟨%d1, %f1, -, H1⟩, ⟨%fs, %hfs, HS⟩, Hk⟩
  obtain rfl := harg1.eq_unread hf0; obtain rfl := harg3.eq_unread hfs
  sl_exec (disch := first | sl_exact hc0 | sl_exact hc1)
  sl_step
  iapply Hk
  isplitl [H0]
  · iexists _; isplitr; · ipureintro; exact harg1.read_unread _
    iexact H0
  isplitl [H1]
  · iexists _; isplitr; swap; · iexact H1
    ipureintro
    sl_unfold_words
    rw [View.read_writes_eq_canon _ _ _ (View.cover_of_tiledL _ S1x1.size (by sl_kernel_rfl))]
    simp (disch := decide) only [View.canon_cons_unit_lit', View.ld_unit_lit', View.readAt_eq_ld, Memref.IsWhole.read_unread, View.readCov_unit_lit', View.readCov_cons_unit_lit', View.read_writes_junk_eq_canon]
    rfl
  iexists _; isplitr; swap; · iexact HS
  ipureintro
  sl_unfold_words
  rw [View.read_writes_eq_canon _ _ _ (View.cover_of_tiledL _ S8x1536.size (by sl_kernel_rfl))]
  simp (disch := decide) only [View.canon_cons_unit_lit', View.ld_unit_lit', View.readAt_eq_ld, Memref.IsWhole.read_unread, View.readCov_unit_lit', View.readCov_cons_unit_lit', View.read_writes_junk_eq_canon]

/-! ## The windows' blocks -/

/-- What the core's buffers hold when the launch is entered. -/
abbrev Entry (F : FTy → Type) : Type := (c : Dev nD) → (b : Ref sig .tc) → Buf (Elt F) ((c : Thread nD τ).loc b)

variable (V : Entry F)

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The accumulator and the proof data -/

/-- The accumulator after point `n`: zeros with the sums of the blocks up to `n` added one after another. -/
def acc (c : Dev nD) : (n : ℕ) → n < cfg0.N → Vec F S8x1536 .f32
  | 0, hn => k0_pay2 (iblk V c 0 ⟨0, hn⟩) (k0_pay1 (F := F))
  | n + 1, hn => k0_pay2 (iblk V c 0 ⟨n + 1, hn⟩) (acc c n (Nat.lt_of_succ_lt hn))

theorem acc_zero (c : Dev nD) (t : Fin cfg0.N) (h : t.val = 0) : acc V c t.val t.isLt = k0_pay2 (iblk V c 0 t) (k0_pay1 (F := F)) := by
  obtain ⟨n, hn⟩ := t
  cases n with
  | zero => rfl
  | succ n => exact absurd h (Nat.succ_ne_zero n)

theorem acc_pos (c : Dev nD) (t : Fin cfg0.N) (h : t.val ≠ 0) :
    acc V c t.val t.isLt = k0_pay2 (iblk V c 0 t) (acc V c (t.val - 1) (Nat.lt_of_le_of_lt (Nat.sub_le _ _) t.isLt)) := by
  obtain ⟨n, hn⟩ := t
  cases n with
  | zero => exact absurd rfl h
  | succ n => rfl

/-- The accumulator's buffer as a memref. -/
abbrev scr : Memref sig .tc .vmem S8x1536 .f32 := Memref.whole cc0_scratch0

/-- The scoped buffers of the other two launches, at anything. -/
def rest (c : Dev nD) : sProp 𝕄 :=
  iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f))

/-- The scoped buffers beside the staging ones: the accumulator, and the rest. -/
theorem scoped_eq (c : Dev nD) : (Pipeline.scopedRest spec0 c : sProp 𝕄) = iprop((∃ d, owns (c : Thread nD τ) scr fullShare d) ∗ rest c) := by
  rw [scopedRest0_eq]; unfold rest; simp only [scr, owns_whole]; try rfl

/-- Between points: the accumulator at what the point before left, the rest at anything. -/
def Phi (c : Dev nD) : (n : ℕ) → n ≤ cfg0.N → sProp 𝕄
  | 0, _ => Pipeline.scopedRest spec0 c
  | n + 1, hn => iprop(owns (c : Thread nD τ) scr fullShare (acc V c n hn) ∗ rest c)

theorem Phi_zero (c : Dev nD) (n : ℕ) (h : n ≤ cfg0.N) (hz : n = 0) : Phi V c n h = Pipeline.scopedRest spec0 c := by
  subst hz; rfl

theorem Phi_pos (c : Dev nD) (n : ℕ) (h : n ≤ cfg0.N) (hz : n ≠ 0) :
    Phi V c n h = iprop(owns (c : Thread nD τ) scr fullShare (acc V c (n - 1) (by omega)) ∗ rest c) := by
  cases n with
  | zero => exact absurd rfl hz
  | succ n => rfl

/-- The proof data of the launch on core `c`: the arrays as it finds them; after the body at point `t` the input's
    buffer at its block, the output's at the mean read off the accumulator (asked for at the last point only). -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => fun _ => k0_pay3 (acc V c t.val t.isLt)
  Φ t := Phi V c t.val (Nat.le_of_lt_succ t.isLt)
  q _ := fullShare
  owed _ := 0

/-- The proof data's arrays are the entry contents. -/
theorem A_eq (c : Dev nD) (w : Fin cfg0.W) : (dat V c).A w = V c (Pipeline.arrRef spec0 w) := by
  dsimp only [dat]

theorem Phi_castSucc (c : Dev nD) (t : Fin cfg0.N) : (dat V c).Φ t.castSucc = Phi V c t.val (Nat.le_of_lt t.isLt) := by
  dsimp only [dat]; exact Pipeline.Dat.Φ_castSucc (Phi V c) t

theorem after0 (c : Dev nD) (t : Fin cfg0.N) : (dat V c).after 0 t = iblk V c 0 t := by dsimp only [dat]
theorem after1 (c : Dev nD) (t : Fin cfg0.N) : (dat V c).after 1 t = fun _ => k0_pay3 (acc V c t.val t.isLt) := by dsimp only [dat]

theorem before0 (c : Dev nD) (t : Fin cfg0.N) (d) : (dat V c).before 0 t d = iblk V c 0 t :=
  before0_of V (dat V c) (A_eq V c 0) (after0 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 2400000 in
/-- The body at any point: first, between or last. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl]
  rw [show (dat V c).Φ t.succ = iprop(owns (c : Thread nD τ) scr fullShare (acc V c t.val t.isLt) ∗ rest c) from rfl]
  rw [show (dat V c).leavesExact 0 t = owns (c : Thread nD τ) (st0_0 t) fullShare ((dat V c).after 0 t) from by
    unfold Dat.leavesExact; rw [show cfg0.idle 0 (grid0.coords t) = false from rfl], after0]
  have hN : t.val < 35 := lt_of_lt_of_eq t.isLt (show cfg0.N = 35 from N_0)
  by_cases h1 : cond1 (grid0.coords t)
  · have ht : t.val % 35 = 34 := (hcond1 t).mp h1
    have h0 : ¬cond0 (grid0.coords t) := fun h => by have := (hcond0 t).mp h; omega
    have hz : t.val ≠ 0 := by omega
    rw [show (dat V c).leavesExact 1 t = owns (c : Thread nD τ) (st0_1 t) fullShare ((dat V c).after 1 t) from by
      unfold Dat.leavesExact; rw [liveAt1 t h1], after1]
    rw [Phi_castSucc V c t, Phi_pos V c _ _ hz, acc_pos V c t hz]
    iintro ⟨⟨HS, Hr⟩, Ho, ⟨%d0, H0⟩, ⟨%d1, H1⟩⟩
    iapply (gamma_last c (grid0.coords t) _ _ _ _ _ _ h0 h1 (iblk V c 0 t) _ Set.univ _)
    isplitl [H0]; · iexact H0
    isplitl [H1]; · iexists _; iexact H1
    isplitl [HS]; · iexact HS
    iintro ⟨H0, H1, HS⟩
    isplitl [HS Hr]
    · isplitl [HS]; · iexact HS
      iexact Hr
    isplitl [Ho]; · iexact Ho
    isplitl [H0]; · iexact H0
    iexact H1
  · rw [Dat.leavesExact_idle (dat V c) 1 t (idleAt1 t h1) (noFlush1 t h1)]
    by_cases hz : t.val = 0
    · have h0 : cond0 (grid0.coords t) := (hcond0 t).mpr (by omega)
      rw [Phi_castSucc V c t, Phi_zero V c _ _ hz, acc_zero V c t hz, scoped_eq]
      iintro ⟨⟨HS, Hr⟩, Ho, ⟨%d0, H0⟩, ⟨%d1, H1⟩⟩
      iapply (gamma_first c (grid0.coords t) _ _ _ _ _ _ h0 h1 (iblk V c 0 t) Set.univ _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1
    · have h0 : ¬cond0 (grid0.coords t) := fun h => by have := (hcond0 t).mp h; omega
      rw [Phi_castSucc V c t, Phi_pos V c _ _ hz, acc_pos V c t hz]
      iintro ⟨⟨HS, Hr⟩, Ho, ⟨%d0, H0⟩, ⟨%d1, H1⟩⟩
      iapply (gamma_next c (grid0.coords t) _ _ _ _ _ _ h0 h1 (iblk V c 0 t) _ Set.univ _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- Before the first point the scoped rest is what is carried, -/
theorem hin (c : Dev nD) : (Pipeline.scopedRest spec0 c : sProp 𝕄) ⊢ (dat V c).Φ 0 := by
  rw [show (dat V c).Φ 0 = Phi V c 0 (Nat.zero_le _) from rfl, Phi_zero V c 0 _ rfl]
  try exact Idealize.SL.BI.Entails.refl _

/-- and after the last one it is given back, the accumulator's contents forgotten. -/
theorem hout (c : Dev nD) : (dat V c).Φ (Fin.last cfg0.N) ⊢ (Pipeline.scopedRest spec0 c : sProp 𝕄) := by
  rw [show (dat V c).Φ (Fin.last cfg0.N) = Phi V c cfg0.N (Nat.le_refl _) from rfl,
    Phi_pos V c _ _ (by have : cfg0.N = 35 := N_0; omega), scoped_eq]
  iintro ⟨HS, Hr⟩
  isplitl [HS]
  · iexists _; iexact HS
  iexact Hr

end Cert.Kernel.Gamma

end
-- ==== Proof.Kernel.Ternary.lean ====
/-
  The second launch (`ternary`, 35 points), at any float values.

  At point `t` the body reads the mean magnitude (one word) and a block of 256 rows of the weights; it stores the
  transposed ternary block and the packed block. `ternary_run` is the body on any staging memrefs, `dat` the proof data
  of the launch entered from contents `V`, `body_obligation` what the pipeline library asks of the body.
-/
module

public import proofs.«01_k».proof.Proof.Gen.Kernel.Launch
public import proofs.«01_k».proof.Proof.Gen.Kernel.Points
public import proofs.«01_k».proof.Proof.Gen.Kernel.Skeleton
public import Idealize.ShloMosaic.Lib.Pipeline.FrameBody
public import Idealize.ShloMosaic.Lib.Pipeline.Value
public import Idealize.ShloMosaic.Lib.Pipeline.Regions
public import Idealize.ShloMosaic.Lib.Ring
public import Idealize.ShloMosaic.Lib.Tactic
public import Idealize.ShloMosaic.Lib.WordCmp
public import Idealize.ShloMosaic.Lib.Pipeline.ValueKit.Acc
public import Idealize.ShloMosaic.Lib.Pipeline.TableIdle

@[expose] public section

set_option maxRecDepth 16384

noncomputable section

namespace Cert.Kernel.Ternary

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one word of a 1×1 buffer. -/
abbrev word (x : Vec F S1x1 .f32) : Elt F .f32 := x fun a => ⟨0, by revert a; decide⟩

/-- The word a load of the whole 1×1 buffer reads, at any index, is that word. -/
theorem word_ld (x : Vec F S1x1 .f32) (off : Fin S1x1.rank → Nat) (inb) (j : (Rect.unit (s := S1x1) off S1x1.size inb).shape.Idx) :
    View.ld x (Rect.unit (s := S1x1) off S1x1.size inb) j = word x := by
  have h : ∀ (k k' : S1x1.Idx), k = k' := fun k k' => funext fun a => by
    have hs : S1x1.size a = 1 := by revert a; decide
    exact Fin.ext (by have := (k a).isLt; have := (k' a).isLt; omega)
  exact congrArg x (h _ _)

set_option maxHeartbeats 1000000 in
/-- The body on whole staging memrefs: the word and the weights' block are left as they were, the two outputs hold
    the transposed ternary block and the packed block. -/
theorem ternary_run (c : Dev nD) (i : grid1.Coords) (arg1 : Memref sig .tc .smem S1x1 .f32) (harg1 : arg1.IsWhole) (arg2 : Memref sig .tc .vmem S256x1536 .bf16) (harg2 : arg2.IsWhole) (arg3 : Memref sig .tc .vmem S1536x256 .bf16) (harg3 : arg3.IsWhole) (arg4 : Memref sig .tc .vmem S256x384 .i8) (harg4 : arg4.IsWhole)
    (x0 : Vec F S1x1 .f32) (x1 : Vec F S256x1536 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay1 (word x0) x1) ∗ owns (c : Thread nD τ) arg4 fullShare (k1_pay2 (word x0) x1)) -∗ K ⟨⟩))
      ⊢ wp frame (wpE (defs₀ (F := F)) Variants.none c none) E (cc1_ternary i arg1 harg1 arg2 harg2 arg3 harg3 arg4 harg4) K := by
  simp only [cc1_ternary_eq_skeleton]; unfold cc1_ternary_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_words
    rw [View.read_writes_eq_canon _ _ _ (View.cover_of_tiledL _ S1536x256.size (by sl_kernel_rfl))]
    simp (disch := decide) only [View.canon_cons_unit_lit', View.ld_unit_lit', View.readAt_eq_ld, Memref.IsWhole.read_unread]
    exact congrArg (fun z => k1_pay1 z x1) (word_ld x0 _ _ _)
  iexists _; isplitr; swap; · iexact H3
  ipureintro
  sl_unfold_words
  rw [View.read_writes_eq_canon _ _ _ (View.cover_of_tiledL _ S256x384.size (by sl_kernel_rfl))]
  simp (disch := decide) only [View.canon_cons_unit_lit', View.ld_unit_lit', View.readAt_eq_ld, Memref.IsWhole.read_unread]
  exact congrArg (fun z => k1_pay2 z x1) (word_ld x0 _ _ _)

/-! ## The windows' blocks -/

/-- What the core's buffers hold when the launch is entered. -/
abbrev Entry (F : FTy → Type) : Type := (c : Dev nD) → (b : Ref sig .tc) → Buf (Elt F) ((c : Thread nD τ).loc b)

variable (V : Entry F)

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the launch on core `c`: the arrays as it finds them; after the body at point `t` the inputs'
    buffers at their blocks and the outputs' at the two computed blocks; nothing carried between points. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (word (iblk V c 0 t)) (iblk V c 1 t)
    | ⟨3, _⟩ => k1_pay2 (word (iblk V c 0 t)) (iblk V c 1 t)
  Φ _ := Pipeline.scopedRest spec1 c
  q _ := fullShare
  owed _ := 0

/-- The proof data's arrays are the entry contents. -/
theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
/-- After the body the first output holds the transposed ternary block, -/
theorem after2 (c : Dev nD) (t : Fin cfg1.N) : (dat V c).after 2 t = k1_pay1 (word (iblk V c 0 t)) (iblk V c 1 t) := by dsimp only [dat]
/-- and the second the packed block. -/
theorem after3 (c : Dev nD) (t : Fin cfg1.N) : (dat V c).after 3 t = k1_pay2 (word (iblk V c 0 t)) (iblk V c 1 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point, from `ternary_run`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (ternary_run c (grid1.coords t) _ _ _ _ _ _ _ _ (iblk V c 0 t) (iblk V c 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Kernel.Ternary

end
-- ==== Proof.Kernel.Matmul.lean ====
/-
  The third launch (`matmul`, 24 × 7 points), at any float values.

  At point `(i, j)` the body reads the mean magnitude, a block of 1024 rows of the activations and a block of 1280 columns
  of the transposed ternary weights. At `j = 0` it quantises the rows: the codes as bytes and the scales are two of its
  outputs, the codes as bf16 and the scales spread over 128 lanes are kept in two scratch buffers until the next block of
  rows. At every point it multiplies the codes by the ternary block and stores the rescaled product in ten slabs of 128
  columns. `mmOut` is the block the ten slabs make, `dat` the proof data of the launch entered from contents `V`,
  `body_obligation` what the pipeline library asks of the body.
-/
module

public import proofs.«01_k».proof.Proof.Gen.Kernel.Launch
public import proofs.«01_k».proof.Proof.Gen.Kernel.Points
public import proofs.«01_k».proof.Proof.Gen.Kernel.Skeleton
public import Idealize.ShloMosaic.Lib.Pipeline.FrameBody
public import Idealize.ShloMosaic.Lib.Pipeline.Value
public import Idealize.ShloMosaic.Lib.Pipeline.Regions
public import Idealize.ShloMosaic.Lib.Ring
public import Idealize.ShloMosaic.Lib.Tactic
public import Idealize.ShloMosaic.Lib.WordCmp
public import Idealize.ShloMosaic.Lib.Pipeline.ValueKit.Acc
public import Idealize.ShloMosaic.Lib.Pipeline.TableIdle
public import proofs.«01_k».proof.Proof.Kernel.Ternary

@[expose] public section

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Ternary (word word_ld)

variable {F : FTy → Type} [FloatOps F]

local notation "𝕄" => MT nD τ sig Unit (Elt F) ℕ (UR sig nD τ) ℕ

/-! ## The body's branch condition -/

/-- The branch that quantises the rows is taken at the first of the seven points of a row block only. -/
abbrev cond (i : grid2.Coords) : Prop := k2_cond1 i = 1#1
theorem hcond : ∀ t : Fin cfg2.N, cond (grid2.coords t) ↔ t.val % 7 = 0 :=
  (fun t => by
    have ht : t.val < 168 := Nat.lt_of_lt_of_eq t.isLt N_2
    have e0 : (grid2.coords t 0).val = t.val / 7 % 24 := Pipeline.Grid.coords_val t 0 (by decide) rfl
    have e1 : (grid2.coords t 1).val = t.val / 1 % 7 := Pipeline.Grid.coords_val t 1 (by decide) rfl
    simp only [cond, k2_cond1, e0, e1]
    word_cmp
   : ∀ t : Fin grid2.N, cond (grid2.coords t) ↔ t.val % 7 = 0)

/-- The codes' and the scales' windows are idle at the other points, and written back at the last of the seven only. -/
theorem live4 : ∀ t : Fin cfg2.N, t.val % 7 = 0 → cfg2.idle 4 (grid2.coords t) = false := by decide +kernel
theorem live5 : ∀ t : Fin cfg2.N, t.val % 7 = 0 → cfg2.idle 5 (grid2.coords t) = false := by decide +kernel
theorem idle4 : ∀ t : Fin cfg2.N, t.val % 7 ≠ 0 → cfg2.idle 4 (grid2.coords t) = true := by decide +kernel
theorem idle5 : ∀ t : Fin cfg2.N, t.val % 7 ≠ 0 → cfg2.idle 5 (grid2.coords t) = true := by decide +kernel
/-- Whether such a window's buffer holds nothing yet: at the first of the seven points. -/
theorem fresh4 : ∀ n, n ≤ cfg2.N → cfg2.fresh 4 n = (n % 7 == 0) :=
  cfg2.fresh_tab 4 (fun n => n % 7 == 0) rfl (by decide +kernel)
theorem fresh5 : ∀ n, n ≤ cfg2.N → cfg2.fresh 5 n = (n % 7 == 0) :=
  cfg2.fresh_tab 5 (fun n => n % 7 == 0) rfl (by decide +kernel)
/-- The rows' window stays on its block through the seven points. -/
theorem index1 : ∀ t : Fin cfg2.N, t.val % 7 ≠ 0 → (cfg2.win 1).index t = (cfg2.win 1).index ⟨t.val - 1, Nat.lt_of_le_of_lt (Nat.sub_le _ _) t.isLt⟩ := by decide +kernel

/-! ## The body on any staging memrefs -/

/-- The ten slab stores, last first, from the codes `a`, the ternary block `b`, the scales `s` (spread
    over 128 lanes) and the mean magnitude `g`. -/
def mmPieces (a : Vec F S1024x1536 .bf16) (b : Vec F S1536x1280 .bf16) (s : Vec F S1024x128 .f32) (g : Elt F .f32) : List (View.Piece (Elt F) S1024x1280 .bf16) := [
    ⟨Rect.unit (s := S1024x1280) ![0, 1152] S1024x128.size inb_S1024x1280_S1024x128_0_1152, k2_pay6 (k2_pay13 a b) s g⟩,
    ⟨Rect.unit (s := S1024x1280) ![0, 1024] S1024x128.size inb_S1024x1280_S1024x128_0_1024, k2_pay5 (k2_pay13 a b) s g⟩,
    ⟨Rect.unit (s := S1024x1280) ![0, 896] S1024x128.size inb_S1024x1280_S1024x128_0_896, k2_pay4 (k2_pay13 a b) s g⟩,
    ⟨Rect.unit (s := S1024x1280) ![0, 768] S1024x128.size inb_S1024x1280_S1024x128_0_768, k2_pay3 (k2_pay13 a b) s g⟩,
    ⟨Rect.unit (s := S1024x1280) ![0, 640] S1024x128.size inb_S1024x1280_S1024x128_0_640, k2_pay2 (k2_pay13 a b) s g⟩,
    ⟨Rect.unit (s := S1024x1280) ![0, 512] S1024x128.size inb_S1024x1280_S1024x128_0_512, k2_pay1 s g (k2_pay18 a b)⟩,
    ⟨Rect.unit (s := S1024x1280) ![0, 384] S1024x128.size inb_S1024x1280_S1024x128_0_384, k2_pay17 a b s g⟩,
    ⟨Rect.unit (s := S1024x1280) ![0, 256] S1024x128.size inb_S1024x1280_S1024x128_0_256, k2_pay16 a b s g⟩,
    ⟨Rect.unit (s := S1024x1280) ![0, 128] S1024x128.size inb_S1024x1280_S1024x128_0_128, k2_pay15 a b s g⟩,
    ⟨Rect.unit (s := S1024x1280) ![0, 0] S1024x128.size inb_S1024x1280_S1024x128_0_0, k2_pay14 a b s g⟩]

/-- They tile the block. -/
theorem mm_cover (a : Vec F S1024x1536 .bf16) (b : Vec F S1536x1280 .bf16) (s : Vec F S1024x128 .f32) (g : Elt F .f32) (y : S1024x1280.Idx) :
    ∃ pc ∈ mmPieces a b s g, y ∈ pc.1.set :=
  View.cover_of_tiledL (mmPieces a b s g) S1024x128.size (by sl_kernel_rfl) y

/-- The block of the product they make. -/
def mmOut (a : Vec F S1024x1536 .bf16) (b : Vec F S1536x1280 .bf16) (s : Vec F S1024x128 .f32) (g : Elt F .f32) : Vec F S1024x1280 .bf16 :=
  View.canon (Val := Elt F) (mmPieces a b s g)

/-- The same block with the mean magnitude read by a load of its one-word buffer. -/
theorem mm_word (xg : Vec F S1x1 .f32) (off : Fin S1x1.rank → Nat) (inb) (j : (Rect.unit (s := S1x1) off S1x1.size inb).shape.Idx)
    (a : Vec F S1024x1536 .bf16) (b : Vec F S1536x1280 .bf16) (s : Vec F S1024x128 .f32) :
    mmOut a b s (View.ld xg (Rect.unit (s := S1x1) off S1x1.size inb) j) = mmOut a b s (word xg) :=
  congrArg (mmOut a b s) (word_ld xg off inb j)

set_option maxHeartbeats 4000000 in
/-- At the first of a row block's seven points: the rows are quantised into the codes' and scales' outputs and the two
    scratch buffers, and the first block of the product is stored. -/
theorem matmul_first (c : Dev nD) (i : grid2.Coords) (arg2 : Memref sig .tc .smem S1x1 .f32) (harg2 : arg2.IsWhole) (arg3 : Memref sig .tc .vmem S1024x1536 .bf16) (harg3 : arg3.IsWhole) (arg4 : Memref sig .tc .vmem S1536x1280 .bf16) (harg4 : arg4.IsWhole) (arg5 : Memref sig .tc .vmem S1024x1280 .bf16) (harg5 : arg5.IsWhole) (arg6 : Memref sig .tc .vmem S1024x1536 .i8) (harg6 : arg6.IsWhole) (arg7 : Memref sig .tc .vmem S1024x1 .f32) (harg7 : arg7.IsWhole) (arg8 : Memref sig .tc .vmem S1024x1536 .bf16) (harg8 : arg8.IsWhole) (arg9 : Memref sig .tc .vmem S1024x128 .f32) (harg9 : arg9.IsWhole) (hc : cond i)
    (xg : Vec F S1x1 .f32) (xx : Vec F S1024x1536 .bf16) (xw : Vec F S1536x1280 .bf16) (E : Set ℕ) (K : PUnit → sProp 𝕄) :
    iprop(owns (c : Thread nD τ) arg2 fullShare (xg) ∗ owns (c : Thread nD τ) arg3 fullShare (xx) ∗ owns (c : Thread nD τ) arg4 fullShare (xw) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare (xg) ∗ owns (c : Thread nD τ) arg3 fullShare (xx) ∗ owns (c : Thread nD τ) arg4 fullShare (xw)
            ∗ owns (c : Thread nD τ) arg5 fullShare (mmOut (k2_pay11 xx) xw (k2_pay12 xx) (word xg)) ∗ owns (c : Thread nD τ) arg6 fullShare (k2_pay10 xx) ∗ owns (c : Thread nD τ) arg7 fullShare (k2_pay8 xx)
            ∗ owns (c : Thread nD τ) arg8 fullShare (k2_pay11 xx) ∗ owns (c : Thread nD τ) arg9 fullShare (k2_pay12 xx)) -∗ K ⟨⟩))
      ⊢ wp frame (wpE (defs₀ (F := F)) Variants.none c none) E (cc2_matmul i arg2 harg2 arg3 harg3 arg4 harg4 arg5 harg5 arg6 harg6 arg7 harg7 arg8 harg8 arg9 harg9) K := by
  simp only [cc2_matmul_eq_skeleton]; unfold cc2_matmul_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  sl_exec (disch := sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    simp (disch := decide) only [View.ld_unit_lit', View.readAt_eq_ld, Memref.IsWhole.read_unread, View.readCov_unit_lit', View.readCov_cons_unit_lit']
    exact (View.read_writes_eq_canon _ _ (mmPieces _ _ _ _) (mm_cover _ _ _ _)).trans (mm_word xg _ _ _ _ _ _)
  isplitl [H6]
  · iexists _; isplitr; swap; · iexact H6
    ipureintro
    sl_unfold_words
    try dsimp only
    rw [View.read_writes_eq_canon _ _ _ (View.cover_of_tiledL _ S1024x1536.size (by sl_kernel_rfl))]
    simp (disch := decide) only [View.canon_cons_unit_lit', View.ld_unit_lit', View.readAt_eq_ld, Memref.IsWhole.read_unread, View.readCov_unit_lit', View.readCov_cons_unit_lit', View.read_writes_junk_eq_canon]
  isplitl [H7]
  · iexists _; isplitr; swap; · iexact H7
    ipureintro
    sl_unfold_words
    try dsimp only
    rw [View.read_writes_eq_canon _ _ _ (View.cover_of_tiledL _ S1024x1.size (by sl_kernel_rfl))]
    simp (disch := decide) only [View.canon_cons_unit_lit', View.ld_unit_lit', View.readAt_eq_ld, Memref.IsWhole.read_unread, View.readCov_unit_lit', View.readCov_cons_unit_lit', View.read_writes_junk_eq_canon]
  isplitl [H8]
  · iexists _; isplitr; swap; · iexact H8
    ipureintro
    sl_unfold_words
    try dsimp only
    rw [View.read_writes_eq_canon _ _ _ (View.cover_of_tiledL _ S1024x1536.size (by sl_kernel_rfl))]
    simp (disch := decide) only [View.canon_cons_unit_lit', View.ld_unit_lit', View.readAt_eq_ld, Memref.IsWhole.read_unread, View.readCov_unit_lit', View.readCov_cons_unit_lit', View.read_writes_junk_eq_canon]
  iexists _; isplitr; swap; · iexact H9
  ipureintro
  sl_unfold_words
  try dsimp only
  rw [View.read_writes_eq_canon _ _ _ (View.cover_of_tiledL _ S1024x128.size (by sl_kernel_rfl))]
  simp (disch := decide) only [View.canon_cons_unit_lit', View.ld_unit_lit', View.readAt_eq_ld, Memref.IsWhole.read_unread, View.readCov_unit_lit', View.readCov_cons_unit_lit', View.read_writes_junk_eq_canon]

set_option maxHeartbeats 4000000 in
/-- At the other six points: the scratch buffers are read, and the next block of the product is stored. -/
theorem matmul_next (c : Dev nD) (i : grid2.Coords) (arg2 : Memref sig .tc .smem S1x1 .f32) (harg2 : arg2.IsWhole) (arg3 : Memref sig .tc .vmem S1024x1536 .bf16) (harg3 : arg3.IsWhole) (arg4 : Memref sig .tc .vmem S1536x1280 .bf16) (harg4 : arg4.IsWhole) (arg5 : Memref sig .tc .vmem S1024x1280 .bf16) (harg5 : arg5.IsWhole) (arg6 : Memref sig .tc .vmem S1024x1536 .i8) (harg6 : arg6.IsWhole) (arg7 : Memref sig .tc .vmem S1024x1 .f32) (harg7 : arg7.IsWhole) (arg8 : Memref sig .tc .vmem S1024x1536 .bf16) (harg8 : arg8.IsWhole) (arg9 : Memref sig .tc .vmem S1024x128 .f32) (harg9 : arg9.IsWhole) (hc : ¬cond i)
    (xg : Vec F S1x1 .f32) (xx : Vec F S1024x1536 .bf16) (xw : Vec F S1536x1280 .bf16) (xa : Vec F S1024x1536 .bf16) (xs : Vec F S1024x128 .f32) (E : Set ℕ) (K : PUnit → sProp 𝕄) :
    iprop(owns (c : Thread nD τ) arg2 fullShare (xg) ∗ owns (c : Thread nD τ) arg3 fullShare (xx) ∗ owns (c : Thread nD τ) arg4 fullShare (xw) ∗ (∃ d, owns (c : Thread nD τ) arg5 fullShare d) ∗ owns (c : Thread nD τ) arg8 fullShare (xa) ∗ owns (c : Thread nD τ) arg9 fullShare (xs)
        ∗ (iprop(owns (c : Thread nD τ) arg2 fullShare (xg) ∗ owns (c : Thread nD τ) arg3 fullShare (xx) ∗ owns (c : Thread nD τ) arg4 fullShare (xw)
            ∗ owns (c : Thread nD τ) arg5 fullShare (mmOut (xa) xw (xs) (word xg)) ∗ owns (c : Thread nD τ) arg8 fullShare (xa) ∗ owns (c : Thread nD τ) arg9 fullShare (xs)) -∗ K ⟨⟩))
      ⊢ wp frame (wpE (defs₀ (F := F)) Variants.none c none) E (cc2_matmul i arg2 harg2 arg3 harg3 arg4 harg4 arg5 harg5 arg6 harg6 arg7 harg7 arg8 harg8 arg9 harg9) K := by
  simp only [cc2_matmul_eq_skeleton]; unfold cc2_matmul_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg2.eq_unread hf2; obtain rfl := harg3.eq_unread hf3; obtain rfl := harg4.eq_unread hf4
  obtain rfl := harg8.eq_unread hf8; obtain rfl := harg9.eq_unread hf9
  sl_exec (disch := sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    simp (disch := decide) only [View.ld_unit_lit', View.readAt_eq_ld, Memref.IsWhole.read_unread, View.readCov_unit_lit', View.readCov_cons_unit_lit']
    exact (View.read_writes_eq_canon _ _ (mmPieces _ _ _ _) (mm_cover _ _ _ _)).trans (mm_word xg _ _ _ _ _ _)
  isplitl [H8]
  · iexists _; isplitr; · ipureintro; exact harg8.read_unread _
    iexact H8
  iexists _; isplitr; · ipureintro; exact harg9.read_unread _
  iexact H9

/-! ## The windows' blocks -/

/-- What the core's buffers hold when the launch is entered. -/
abbrev Entry (F : FTy → Type) : Type := (c : Dev nD) → (b : Ref sig .tc) → Buf (Elt F) ((c : Thread nD τ).loc b)

variable (V : Entry F)

/-- Window `w`'s block at point `t`, read off its array as the launch finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The two scratch buffers as memrefs. -/
abbrev scrA : Memref sig .tc .vmem S1024x1536 .bf16 := Memref.whole cc2_scratch0
abbrev scrS : Memref sig .tc .vmem S1024x128 .f32 := Memref.whole cc2_scratch1

/-- The scoped buffers of the other two launches, at anything. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f))

/-- The scoped buffers beside the staging ones: the two scratch buffers, and the rest. -/
theorem scoped_eq (c : Dev nD) : (Pipeline.scopedRest spec2 c : sProp 𝕄)
    = iprop((∃ d, owns (c : Thread nD τ) scrA fullShare d) ∗ (∃ d, owns (c : Thread nD τ) scrS fullShare d) ∗ rest c) := by
  rw [Pipeline.scopedRest_eq_of_list spec2 c [cc2_scratch0, cc2_scratch1, cc0_stg0_0, cc0_stg0_1, cc0_scratch0, cc1_stg1_0, cc1_stg1_1, cc1_stg2_0, cc1_stg2_1, cc1_stg3_0, cc1_stg3_1, cc0_stg1_0, cc1_stg0_0] (by decide) (by decide)]
  unfold rest; simp only [scrA, scrS, owns_whole]; try rfl

/-- Between points: the scratch buffers at the codes and scales of the rows of the point before, the rest at anything. -/
def Phi (c : Dev nD) : (n : ℕ) → n ≤ cfg2.N → sProp 𝕄
  | 0, _ => Pipeline.scopedRest spec2 c
  | n + 1, hn => iprop(owns (c : Thread nD τ) scrA fullShare (k2_pay11 (iblk V c 1 ⟨n, hn⟩)) ∗ owns (c : Thread nD τ) scrS fullShare (k2_pay12 (iblk V c 1 ⟨n, hn⟩)) ∗ rest c)

theorem Phi_zero (c : Dev nD) (n : ℕ) (h : n ≤ cfg2.N) (hz : n = 0) : Phi V c n h = Pipeline.scopedRest spec2 c := by
  subst hz; rfl

theorem Phi_pos (c : Dev nD) (n : ℕ) (h : n ≤ cfg2.N) (hz : n ≠ 0) :
    Phi V c n h = iprop(owns (c : Thread nD τ) scrA fullShare (k2_pay11 (iblk V c 1 ⟨n - 1, by omega⟩)) ∗ owns (c : Thread nD τ) scrS fullShare (k2_pay12 (iblk V c 1 ⟨n - 1, by omega⟩)) ∗ rest c) := by
  cases n with
  | zero => exact absurd rfl hz
  | succ n => rfl

/-- The proof data of the launch on core `c`: the arrays as it finds them; after the body at point `t` the inputs'
    buffers at their blocks, the outputs' at the product's block and at the codes and scales of the block of rows. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => mmOut (k2_pay11 (iblk V c 1 t)) (iblk V c 2 t) (k2_pay12 (iblk V c 1 t)) (word (iblk V c 0 t))
    | ⟨4, _⟩ => k2_pay10 (iblk V c 1 t)
    | ⟨5, _⟩ => k2_pay8 (iblk V c 1 t)
  Φ t := Phi V c t.val (Nat.le_of_lt_succ t.isLt)
  q _ := fullShare
  owed _ := 0

/-- The proof data's arrays are the entry contents. -/
theorem A_eq (c : Dev nD) (w : Fin cfg2.W) : (dat V c).A w = V c (Pipeline.arrRef spec2 w) := by
  dsimp only [dat]

theorem Phi_castSucc (c : Dev nD) (t : Fin cfg2.N) : (dat V c).Φ t.castSucc = Phi V c t.val (Nat.le_of_lt t.isLt) := by
  dsimp only [dat]; exact Pipeline.Dat.Φ_castSucc (Phi V c) t

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = mmOut (k2_pay11 (iblk V c 1 t)) (iblk V c 2 t) (k2_pay12 (iblk V c 1 t)) (word (iblk V c 0 t)) := by dsimp only [dat]
theorem after4 (c : Dev nD) (t : Fin cfg2.N) : (dat V c).after 4 t = k2_pay10 (iblk V c 1 t) := by dsimp only [dat]
theorem after5 (c : Dev nD) (t : Fin cfg2.N) : (dat V c).after 5 t = k2_pay8 (iblk V c 1 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d

/-- The block of rows is the same through the seven points. -/
theorem iblk1_pred (c : Dev nD) (t : Fin cfg2.N) (h : t.val % 7 ≠ 0) :
    (iblk V c 1 t : Vec F S1024x1536 .bf16) = iblk V c 1 ⟨t.val - 1, Nat.lt_of_le_of_lt (Nat.sub_le _ _) t.isLt⟩ := by
  have key : ∀ (t : Fin cfg2.N) (d), (dat V c).fetched 1 t d = iblk V c 1 t := fun t d => by
    unfold Dat.fetched Dat.blockOf iblk; rw [A_eq]; try rfl
  have d : (cfg2.win 1).block.Idx → Elt F (cfg2.win 1).elt := iblk V c 1 t
  exact (key t d).symm.trans (((dat V c).fetched_congr 1 (index1 t h) rfl d).trans (key _ d))

/-- At the points after the first of the seven, the codes' buffer still holds the codes -/
theorem before4 (c : Dev nD) (t : Fin cfg2.N) (h : t.val % 7 ≠ 0) (d) : (dat V c).before 4 t d = k2_pay10 (iblk V c 1 t) := by
  rw [(dat V c).before_out_traj 4 rfl (fun _ _ => rfl) (fun t ht hi hf => by
    rw [fresh4 _ (Nat.le_of_lt t.isLt)] at hf
    have h7 : t.val % 7 ≠ 0 := by simpa using hf
    rw [after4, after4]; exact congrArg k2_pay10 (iblk1_pred V c t h7)) t.val t rfl d,
    fresh4 _ (Nat.le_of_lt t.isLt), if_neg (by simpa using h), after4]
  exact congrArg k2_pay10 (iblk1_pred V c t h).symm

/-- and the scales' buffer the scales. -/
theorem before5 (c : Dev nD) (t : Fin cfg2.N) (h : t.val % 7 ≠ 0) (d) : (dat V c).before 5 t d = k2_pay8 (iblk V c 1 t) := by
  rw [(dat V c).before_out_traj 5 rfl (fun _ _ => rfl) (fun t ht hi hf => by
    rw [fresh5 _ (Nat.le_of_lt t.isLt)] at hf
    have h7 : t.val % 7 ≠ 0 := by simpa using hf
    rw [after5, after5]; exact congrArg k2_pay8 (iblk1_pred V c t h7)) t.val t rfl d,
    fresh5 _ (Nat.le_of_lt t.isLt), if_neg (by simpa using h), after5]
  exact congrArg k2_pay8 (iblk1_pred V c t h).symm

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

/-- An idle window whose buffer holds what it is asked to hold at a write-back may be left alone. -/
theorem leave_idle (c : Dev nD) (w : Fin cfg2.W) (t : Fin cfg2.N) (hi : cfg2.idle w (cfg2.grid.coords t) = true) (d)
    (hb : (dat V c).before w t d = (dat V c).after w t) :
    (owns (c : Thread nD τ) ((cfg2.win w).stage (cfg2.slots t w)) fullShare ((dat V c).before w t d) : sProp 𝕄) ⊢ (dat V c).leavesExact w t := by
  unfold Dat.leavesExact; rw [hi]
  cases (cfg2.win w).flush t
  · dsimp only
    iintro H; iexists d; iexact H
  · dsimp only
    rw [hb]

set_option maxHeartbeats 4800000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2]
  rw [show (dat V c).owesAt () t.succ = (dat V c).owesAt () t.castSucc from rfl]
  rw [show (dat V c).Φ t.succ = iprop(owns (c : Thread nD τ) scrA fullShare (k2_pay11 (iblk V c 1 t)) ∗ owns (c : Thread nD τ) scrS fullShare (k2_pay12 (iblk V c 1 t)) ∗ rest c) from rfl]
  rw [show (dat V c).leavesExact 0 t = owns (c : Thread nD τ) (st2_0 t) fullShare ((dat V c).after 0 t) from by
    unfold Dat.leavesExact; rw [show cfg2.idle 0 (grid2.coords t) = false from rfl], after0]
  rw [show (dat V c).leavesExact 1 t = owns (c : Thread nD τ) (st2_1 t) fullShare ((dat V c).after 1 t) from by
    unfold Dat.leavesExact; rw [show cfg2.idle 1 (grid2.coords t) = false from rfl], after1]
  rw [show (dat V c).leavesExact 2 t = owns (c : Thread nD τ) (st2_2 t) fullShare ((dat V c).after 2 t) from by
    unfold Dat.leavesExact; rw [show cfg2.idle 2 (grid2.coords t) = false from rfl], after2]
  rw [show (dat V c).leavesExact 3 t = owns (c : Thread nD τ) (st2_3 t) fullShare ((dat V c).after 3 t) from by
    unfold Dat.leavesExact; rw [show cfg2.idle 3 (grid2.coords t) = false from rfl], after3]
  by_cases h7 : t.val % 7 = 0
  · have h1 : cond (grid2.coords t) := (hcond t).mpr h7
    rw [show (dat V c).leavesExact 4 t = owns (c : Thread nD τ) (st2_4 t) fullShare ((dat V c).after 4 t) from by
      unfold Dat.leavesExact; rw [live4 t h7], after4]
    rw [show (dat V c).leavesExact 5 t = owns (c : Thread nD τ) (st2_5 t) fullShare ((dat V c).after 5 t) from by
      unfold Dat.leavesExact; rw [live5 t h7], after5]
    have hΦ : (dat V c).Φ t.castSucc ⊢ (iprop((∃ d, owns (c : Thread nD τ) scrA fullShare d) ∗ (∃ d, owns (c : Thread nD τ) scrS fullShare d) ∗ rest c) : sProp 𝕄) := by
      rw [Phi_castSucc V c t]
      by_cases hz : t.val = 0
      · rw [Phi_zero V c _ _ hz, scoped_eq]
      · rw [Phi_pos V c _ _ hz]
        iintro ⟨HA, HS, Hr⟩
        isplitl [HA]; · iexists _; iexact HA
        isplitl [HS]; · iexists _; iexact HS
        iexact Hr
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨HA, HS, Hr⟩
    iapply (matmul_first c (grid2.coords t) _ _ _ _ _ _ _ _ _ _ _ _ _ _ _ _ h1 (iblk V c 0 t) (iblk V c 1 t) (iblk V c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HA]; · iexact HA
    isplitl [HS]; · iexact HS
    iintro ⟨H0, H1, H2, H3, H4, H5, HA, HS⟩
    isplitl [HA HS Hr]
    · isplitl [HA]; · iexact HA
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexact H5
  · have h1 : ¬cond (grid2.coords t) := fun h => h7 ((hcond t).mp h)
    have hz : t.val ≠ 0 := by omega
    rw [Phi_castSucc V c t, Phi_pos V c _ _ hz, ← iblk1_pred V c t h7]
    iintro ⟨⟨HA, HS, Hr⟩, Ho, ⟨%d0, H0⟩, ⟨%d1, H1⟩, ⟨%d2, H2⟩, ⟨%d3, H3⟩, ⟨%d4, H4⟩, ⟨%d5, H5⟩⟩
    iapply (matmul_next c (grid2.coords t) _ _ _ _ _ _ _ _ _ (hstage2_4 ((cfg2.slots t 4).cast nbuf2_4)) _ (hstage2_5 ((cfg2.slots t 5).cast nbuf2_5)) _ _ _ _ h1 (iblk V c 0 t) (iblk V c 1 t) (iblk V c 2 t) _ _ Set.univ _)
    isplitl [H0]; · iexact H0
    isplitl [H1]; · iexact H1
    isplitl [H2]; · iexact H2
    isplitl [H3]; · iexists _; iexact H3
    isplitl [HA]; · iexact HA
    isplitl [HS]; · iexact HS
    iintro ⟨H0, H1, H2, H3, HA, HS⟩
    isplitl [HA HS Hr]
    · isplitl [HA]; · iexact HA
      isplitl [HS]; · iexact HS
      iexact Hr
    isplitl [Ho]; · iexact Ho
    isplitl [H0]; · iexact H0
    isplitl [H1]; · iexact H1
    isplitl [H2]; · iexact H2
    isplitl [H3]; · iexact H3
    isplitl [H4]
    · iapply (leave_idle V c 4 t (idle4 t h7) d4 ((before4 V c t h7 d4).trans (after4 V c t).symm))
      iexact H4
    iapply (leave_idle V c 5 t (idle5 t h7) d5 ((before5 V c t h7 d5).trans (after5 V c t).symm))
    iexact H5

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- Before the first point the scoped rest is what is carried, -/
theorem hin (c : Dev nD) : (Pipeline.scopedRest spec2 c : sProp 𝕄) ⊢ (dat V c).Φ 0 := by
  rw [show (dat V c).Φ 0 = Phi V c 0 (Nat.zero_le _) from rfl, Phi_zero V c 0 _ rfl]
  try exact Idealize.SL.BI.Entails.refl _

/-- and after the last one it is given back, the scratch contents forgotten. -/
theorem hout (c : Dev nD) : (dat V c).Φ (Fin.last cfg2.N) ⊢ (Pipeline.scopedRest spec2 c : sProp 𝕄) := by
  rw [show (dat V c).Φ (Fin.last cfg2.N) = Phi V c cfg2.N (Nat.le_refl _) from rfl,
    Phi_pos V c _ _ (by have : cfg2.N = 168 := N_2; omega), scoped_eq]
  iintro ⟨HA, HS, Hr⟩
  isplitl [HA]; · iexists _; iexact HA
  isplitl [HS]; · iexists _; iexact HS
  iexact Hr

end Cert.Kernel.Matmul

end
-- ==== Proof.Kernel.Run.lean ====
/-
  The run of the whole kernel program, at any float values: a host reshape, the three launches one after the other, four
  host reshapes.

  `W1` … `W5` are a core's unscoped buffers after each of the five items; each launch leaves in its result arrays what
  its proof data's write-backs make of them. `run_main` says: from any memory with zero counters every weakly fair
  execution terminates, and every final state holds in every unscoped buffer of every core what `W5` says, with every
  semaphore counter at zero. `run_frame` reads it at the arguments.
-/
module

public import proofs.«01_k».proof.Proof.Gen.Kernel.Launch
public import proofs.«01_k».proof.Proof.Gen.Kernel.Regions
public import proofs.«01_k».proof.Proof.Kernel.Gamma
public import proofs.«01_k».proof.Proof.Kernel.Ternary
public import proofs.«01_k».proof.Proof.Kernel.Matmul
public import Idealize.ShloMosaic.Lib.Pipeline.RegionsLoop
public import Idealize.ShloMosaic.Lib.Pipeline.Kit

@[expose] public section

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers between the items -/

/-- Core `c`'s unscoped buffers after the first reshape. -/
abbrev W1 (c : Dev nD) : Valuation τ sig (Elt F) := StableHlo.after hostOps0 (V0 m c)
/-- The same, as a launch's entry contents. -/
abbrev E1 : Gamma.Entry F := fun c b => W1 m c b
/-- What the first launch leaves in its one-word array. -/
def out1 (c : Dev nD) : Buf (Elt F) ((c : Thread nD τ).loc main_v1) := (Gamma.dat (E1 m) c).arrAt 1 cfg0.N
/-- … after the first launch. -/
abbrev W2 (c : Dev nD) : Valuation τ sig (Elt F) := Function.update (W1 m c) main_v1 (out1 m c)
abbrev E2 : Ternary.Entry F := fun c b => W2 m c b
/-- What the second launch leaves in its first and second array. -/
def out20 (c : Dev nD) : Buf (Elt F) ((c : Thread nD τ).loc main_v2_0) := (Ternary.dat (E2 m) c).arrAt 2 cfg1.N
def out21 (c : Dev nD) : Buf (Elt F) ((c : Thread nD τ).loc main_v2_1) := (Ternary.dat (E2 m) c).arrAt 3 cfg1.N
/-- … after the second launch. -/
abbrev W3 (c : Dev nD) : Valuation τ sig (Elt F) := Function.update (Function.update (W2 m c) main_v2_0 (out20 m c)) main_v2_1 (out21 m c)
abbrev E3 : Matmul.Entry F := fun c b => W3 m c b
/-- What the third launch leaves in its three arrays. -/
def out30 (c : Dev nD) : Buf (Elt F) ((c : Thread nD τ).loc main_v3_0) := (Matmul.dat (E3 m) c).arrAt 3 cfg2.N
def out31 (c : Dev nD) : Buf (Elt F) ((c : Thread nD τ).loc main_v3_1) := (Matmul.dat (E3 m) c).arrAt 4 cfg2.N
def out32 (c : Dev nD) : Buf (Elt F) ((c : Thread nD τ).loc main_v3_2) := (Matmul.dat (E3 m) c).arrAt 5 cfg2.N
/-- … after the third launch. -/
abbrev W4 (c : Dev nD) : Valuation τ sig (Elt F) :=
  Function.update (Function.update (Function.update (W3 m c) main_v3_0 (out30 m c)) main_v3_1 (out31 m c)) main_v3_2 (out32 m c)
abbrev E4 : Matmul.Entry F := fun c b => W4 m c b
/-- … at the end, after the last four reshapes. -/
abbrev W5 (c : Dev nD) : Valuation τ sig (Elt F) := StableHlo.after hostOps3 (W4 m c)

theorem W1_of (c : Dev nD) (r : Ref sig .tc) (h : r ∉ hostOps0_W) : W1 m c r = V0 m c r :=
  StableHlo.after_of_writes_sub hostOps0 _ hostOps0_writes h
theorem W2_of (c : Dev nD) (r : Ref sig .tc) (h : r ≠ main_v1) : W2 m c r = W1 m c r :=
  Function.update_of_ne (StableHlo.devRef_ne_of_ne h : (Proc.devRef .tc r : DevRef τ sig) ≠ Proc.devRef .tc main_v1) _ _
theorem W3_of (c : Dev nD) (r : Ref sig .tc) (h0 : r ≠ main_v2_0) (h1 : r ≠ main_v2_1) : W3 m c r = W2 m c r :=
  (Function.update_of_ne (StableHlo.devRef_ne_of_ne h1 : (Proc.devRef .tc r : DevRef τ sig) ≠ Proc.devRef .tc main_v2_1) _ _).trans
    (Function.update_of_ne (StableHlo.devRef_ne_of_ne h0 : (Proc.devRef .tc r : DevRef τ sig) ≠ Proc.devRef .tc main_v2_0) _ _)
theorem W4_of (c : Dev nD) (r : Ref sig .tc) (h0 : r ≠ main_v3_0) (h1 : r ≠ main_v3_1) (h2 : r ≠ main_v3_2) : W4 m c r = W3 m c r :=
  (Function.update_of_ne (StableHlo.devRef_ne_of_ne h2 : (Proc.devRef .tc r : DevRef τ sig) ≠ Proc.devRef .tc main_v3_2) _ _).trans
    ((Function.update_of_ne (StableHlo.devRef_ne_of_ne h1 : (Proc.devRef .tc r : DevRef τ sig) ≠ Proc.devRef .tc main_v3_1) _ _).trans
      (Function.update_of_ne (StableHlo.devRef_ne_of_ne h0 : (Proc.devRef .tc r : DevRef τ sig) ≠ Proc.devRef .tc main_v3_0) _ _))
theorem W5_of (c : Dev nD) (r : Ref sig .tc) (h : r ∉ hostOps3_W) : W5 m c r = W4 m c r :=
  StableHlo.after_of_writes_sub hostOps3 _ hostOps3_writes h

theorem W2_v1 (c : Dev nD) : W2 m c main_v1 = out1 m c := Function.update_self _ _ _
theorem W3_v21 (c : Dev nD) : W3 m c main_v2_1 = out21 m c := Function.update_self _ _ _
theorem W3_v20 (c : Dev nD) : W3 m c main_v2_0 = out20 m c :=
  (Function.update_of_ne (StableHlo.devRef_ne_of_ne (by decide) : (Proc.devRef .tc main_v2_0 : DevRef τ sig) ≠ Proc.devRef .tc main_v2_1) _ _).trans
    (Function.update_self _ _ _)
theorem W4_v32 (c : Dev nD) : W4 m c main_v3_2 = out32 m c := Function.update_self _ _ _
theorem W4_v31 (c : Dev nD) : W4 m c main_v3_1 = out31 m c :=
  (Function.update_of_ne (StableHlo.devRef_ne_of_ne (by decide) : (Proc.devRef .tc main_v3_1 : DevRef τ sig) ≠ Proc.devRef .tc main_v3_2) _ _).trans
    (Function.update_self _ _ _)
theorem W4_v30 (c : Dev nD) : W4 m c main_v3_0 = out30 m c :=
  (Function.update_of_ne (StableHlo.devRef_ne_of_ne (by decide) : (Proc.devRef .tc main_v3_0 : DevRef τ sig) ≠ Proc.devRef .tc main_v3_2) _ _).trans
    ((Function.update_of_ne (StableHlo.devRef_ne_of_ne (by decide) : (Proc.devRef .tc main_v3_0 : DevRef τ sig) ≠ Proc.devRef .tc main_v3_1) _ _).trans
      (Function.update_self _ _ _))

/-- No item writes an argument. -/
theorem W5_arg0 (c : Dev nD) : W5 m c main_arg0 = m ((c : Thread nD τ).loc main_arg0) :=
  (W5_of m c main_arg0 (by decide)).trans <| (W4_of m c main_arg0 (by decide) (by decide) (by decide)).trans <|
    (W3_of m c main_arg0 (by decide) (by decide)).trans <| (W2_of m c main_arg0 (by decide)).trans <| (W1_of m c main_arg0 (by decide)).trans rfl
theorem W5_arg1 (c : Dev nD) : W5 m c main_arg1 = m ((c : Thread nD τ).loc main_arg1) :=
  (W5_of m c main_arg1 (by decide)).trans <| (W4_of m c main_arg1 (by decide) (by decide) (by decide)).trans <|
    (W3_of m c main_arg1 (by decide) (by decide)).trans <| (W2_of m c main_arg1 (by decide)).trans <| (W1_of m c main_arg1 (by decide)).trans rfl

/-! ## The launches' records -/

abbrev 𝒱₀ : Variants := Variants.none
abbrev LL : GSem nD τ sig → Finset Unit := fun _ => ∅
abbrev lv : GSem nD τ sig → Unit → ℕ := fun _ _ => 0
/-- What a core holds beside its buffers: it owes nothing. -/
abbrev R (c : Dev nD) : sProp 𝕄 := iprop(∃ W, owes (c : Thread nD τ) (0 : CellTallies nD τ sig Unit) W)

/-- The three launches' proof data, each entered from the buffers before it. -/
def pdats : (p : Fin 3) → (c : Dev nD) → Dat τ (Elt F) Unit ℕ (UR sig nD τ) ℕ (Pipeline.pin (pcfgs (F := F)) adm p) c
  | ⟨0, _⟩ => fun c => Gamma.dat (E1 m) c
  | ⟨1, _⟩ => fun c => Ternary.dat (E2 m) c
  | ⟨2, _⟩ => fun c => Matmul.dat (E3 m) c

set_option backward.isDefEq.respectTransparency.types false in
/-- The first launch, from the buffers `W1` to the buffers `W2`. -/
def reg0 : RegionSeg (pcfgs (F := F)) adm (pdats m) () defs₀ 𝒱₀ LL lv 0 where
  win := launch0.win.to₀
  block_pos := launch0.block_pos
  stage_whole := launch0.stage_whole
  K := PEmpty
  osem k := k.elim
  ho := Pipeline.OwnSemFacts.none _
  hbody c := (Gamma.body_obligation (E1 m) c).loose
  hwaits := Pipeline.hwaits_of_owed_zero _ _ _ _ LL lv 0 fun _ _ => rfl
  pre c := iprop(unscopedBufs c (E1 m c) ∗ R c)
  post c := iprop(unscopedBufs c (E2 m c) ∗ R c)
  X _ := BI.emp
  Y _ := BI.emp
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) (Gamma.A_eq (E1 m) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (Gamma.dat (E1 m) c).Φ 0 from rfl]
    iintro ⟨-, -, Hr⟩
    iapply (Gamma.hin (E1 m) c)
    iexact Hr
  hout c := by
    rw [Pipeline.ownSems0_none, show (pdats m 0 c).Φ (Fin.last (Pipeline.pin (pcfgs (F := F)) adm 0).N) = (Gamma.dat (E1 m) c).Φ (Fin.last cfg0.N) from rfl]
    iintro Hr
    isplitr; · iempintro
    isplitr; · iempintro
    iapply (Gamma.hout (E1 m) c)
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl) (E1 m c) (E2 m c) ((pdats m 0 c).arrAt · cfg0.N)
      (fun w => by
        fin_cases w
        · exact (((pdats m 0 c).arrAt_in 0 rfl _).trans (Gamma.A_eq (E1 m) c 0)).trans (W2_of m c main_arg1 (by decide)).symm
        · exact (W2_v1 m c).symm)
      (fun b hb => W2_of m c b fun h => hb (h ▸ Finset.mem_image.mpr ⟨1, Finset.mem_univ _, rfl⟩))
    iintro ⟨Ha, HO, -, Hrest⟩
    imodintro
    isplitl [Ha Hrest]; · iapply hjoin; isplitl [Ha] <;> iassumption
    unfold Pipeline.Dat.owesAt Pipeline.owesWithin
    icases HO with ⟨%W, -, HO⟩; iexists W; iexact HO

set_option backward.isDefEq.respectTransparency.types false in
/-- The second launch, from the buffers `W2` to the buffers `W3`. -/
def reg1 : RegionSeg (pcfgs (F := F)) adm (pdats m) () defs₀ 𝒱₀ LL lv 1 where
  win := launch1.win.to₀
  block_pos := launch1.block_pos
  stage_whole := launch1.stage_whole
  K := PEmpty
  osem k := k.elim
  ho := Pipeline.OwnSemFacts.none _
  hbody c := (Ternary.body_obligation (E2 m) c).loose
  hwaits := Pipeline.hwaits_of_owed_zero _ _ _ _ LL lv 1 fun _ _ => rfl
  pre c := iprop(unscopedBufs c (E2 m c) ∗ R c)
  post c := iprop(unscopedBufs c (E3 m c) ∗ R c)
  X _ := BI.emp
  Y _ := BI.emp
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) (Ternary.A_eq (E2 m) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩
    iexact Hr
  hout c := by
    rw [Pipeline.ownSems0_none, show (pdats m 1 c).Φ (Fin.last (Pipeline.pin (pcfgs (F := F)) adm 1).N) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl) (E2 m c) (E3 m c) ((pdats m 1 c).arrAt · cfg1.N)
      (fun w => by
        fin_cases w
        · exact (((pdats m 1 c).arrAt_in 0 rfl _).trans (Ternary.A_eq (E2 m) c 0)).trans (W3_of m c main_v1 (by decide) (by decide)).symm
        · exact (((pdats m 1 c).arrAt_in 1 rfl _).trans (Ternary.A_eq (E2 m) c 1)).trans (W3_of m c main_arg1 (by decide) (by decide)).symm
        · exact (W3_v20 m c).symm
        · exact (W3_v21 m c).symm)
      (fun b hb => W3_of m c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]; · iapply hjoin; isplitl [Ha] <;> iassumption
    unfold Pipeline.Dat.owesAt Pipeline.owesWithin
    icases HO with ⟨%W, -, HO⟩; iexists W; iexact HO

set_option backward.isDefEq.respectTransparency.types false in
/-- The third launch, from the buffers `W3` to the buffers `W4`. -/
def reg2 : RegionSeg (pcfgs (F := F)) adm (pdats m) () defs₀ 𝒱₀ LL lv 2 where
  win := launch2.win.to₀
  block_pos := launch2.block_pos
  stage_whole := launch2.stage_whole
  K := PEmpty
  osem k := k.elim
  ho := Pipeline.OwnSemFacts.none _
  hbody c := (Matmul.body_obligation (E3 m) c).loose
  hwaits := Pipeline.hwaits_of_owed_zero _ _ _ _ LL lv 2 fun _ _ => rfl
  pre c := iprop(unscopedBufs c (E3 m c) ∗ R c)
  post c := iprop(unscopedBufs c (E4 m c) ∗ R c)
  X _ := BI.emp
  Y _ := BI.emp
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) (Matmul.A_eq (E3 m) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = (Matmul.dat (E3 m) c).Φ 0 from rfl]
    iintro ⟨-, -, Hr⟩
    iapply (Matmul.hin (E3 m) c)
    iexact Hr
  hout c := by
    rw [Pipeline.ownSems0_none, show (pdats m 2 c).Φ (Fin.last (Pipeline.pin (pcfgs (F := F)) adm 2).N) = (Matmul.dat (E3 m) c).Φ (Fin.last cfg2.N) from rfl]
    iintro Hr
    isplitr; · iempintro
    isplitr; · iempintro
    iapply (Matmul.hout (E3 m) c)
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl) (E3 m c) (E4 m c) ((pdats m 2 c).arrAt · cfg2.N)
      (fun w => by
        fin_cases w
        · exact (((pdats m 2 c).arrAt_in 0 rfl _).trans (Matmul.A_eq (E3 m) c 0)).trans (W4_of m c main_v1 (by decide) (by decide) (by decide)).symm
        · exact (((pdats m 2 c).arrAt_in 1 rfl _).trans (Matmul.A_eq (E3 m) c 1)).trans (W4_of m c main_v0 (by decide) (by decide) (by decide)).symm
        · exact (((pdats m 2 c).arrAt_in 2 rfl _).trans (Matmul.A_eq (E3 m) c 2)).trans (W4_of m c main_v2_0 (by decide) (by decide) (by decide)).symm
        · exact (W4_v30 m c).symm
        · exact (W4_v31 m c).symm
        · exact (W4_v32 m c).symm)
      (fun b hb => W4_of m c b (fun h => hb (h ▸ Finset.mem_image.mpr ⟨3, Finset.mem_univ _, rfl⟩))
        (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]; · iapply hjoin; isplitl [Ha] <;> iassumption
    unfold Pipeline.Dat.owesAt Pipeline.owesWithin
    icases HO with ⟨%W, -, HO⟩; iexists W; iexact HO

/-! ## The host stretches -/

/-- The first reshape. -/
def seg0 : HostSeg (Ix := Unit) (Name := ℕ) (U := UR sig nD τ) (Lvl := ℕ) (pcfgs (F := F)) defs₀ 𝒱₀ LL lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (fun c => R c)
/-- The last four reshapes. -/
def seg4 : HostSeg (Ix := Unit) (Name := ℕ) (U := UR sig nD τ) (Lvl := ℕ) (pcfgs (F := F)) defs₀ 𝒱₀ LL lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) (fun c => R c)

/-- @main as the list of the five items. -/
abbrev segs : List (Seg (pcfgs (F := F)) adm (pdats m) () defs₀ 𝒱₀ LL lv) :=
  [.host (seg0 m), .region (reg0 m), .region (reg1 m), .region (reg2 m), .host (seg4 m)]

theorem held_eq (c : Dev nD) (W : Valuation τ sig (Elt F)) :
    (StableHlo.held (c : Thread nD τ) (Pipeline.ucRefs τ sig) W : sProp 𝕄) = unscopedBufs c (fun b => W b) :=
  (Pipeline.unscopedBufs_held c W).symm

/-- The buffers read at the end are among the unscoped ones. -/
theorem mem_arg0 : (Proc.devRef .tc main_arg0 : DevRef τ sig) ∈ Pipeline.ucRefs τ sig := Finset.mem_filter.mpr ⟨StableHlo.devRef_mem_tcRefs main_arg0, by decide⟩
theorem mem_arg1 : (Proc.devRef .tc main_arg1 : DevRef τ sig) ∈ Pipeline.ucRefs τ sig := Finset.mem_filter.mpr ⟨StableHlo.devRef_mem_tcRefs main_arg1, by decide⟩
theorem mem_v4 : (Proc.devRef .tc main_v4 : DevRef τ sig) ∈ Pipeline.ucRefs τ sig := Finset.mem_filter.mpr ⟨StableHlo.devRef_mem_tcRefs main_v4, by decide⟩
theorem mem_v21 : (Proc.devRef .tc main_v2_1 : DevRef τ sig) ∈ Pipeline.ucRefs τ sig := Finset.mem_filter.mpr ⟨StableHlo.devRef_mem_tcRefs main_v2_1, by decide⟩
theorem mem_v5 : (Proc.devRef .tc main_v5 : DevRef τ sig) ∈ Pipeline.ucRefs τ sig := Finset.mem_filter.mpr ⟨StableHlo.devRef_mem_tcRefs main_v5, by decide⟩
theorem mem_v6 : (Proc.devRef .tc main_v6 : DevRef τ sig) ∈ Pipeline.ucRefs τ sig := Finset.mem_filter.mpr ⟨StableHlo.devRef_mem_tcRefs main_v6, by decide⟩
theorem mem_v7 : (Proc.devRef .tc main_v7 : DevRef τ sig) ∈ Pipeline.ucRefs τ sig := Finset.mem_filter.mpr ⟨StableHlo.devRef_mem_tcRefs main_v7, by decide⟩

set_option backward.isDefEq.respectTransparency.types false in
/-- Every weakly fair execution of @main from memory `m` with zero counters terminates, and every final state holds in
    every unscoped buffer what `W5` says and has every semaphore counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = W5 m c b) ∧ r.2.sem = fun _ => 0) := by
  refine Pipeline.θ_run_regions_kit_sems (pcfgs (F := F)) adm (pdats m) () cellOf_inj emb₁ defs₀ 𝒱₀ LL lv m ρ main (segs m)
    (fun c Q => by rw [main_segs adm (pdats m) () 𝒱₀ LL lv (seg0 m) (seg4 m) (reg0 m) (reg1 m) (reg2 m) rfl rfl c])
    (by simp only [Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W5 m c)))
    (hch := ⟨fun _ => .rfl, fun c => sep_mono (Entails.of_eq (held_eq c (W1 m c))) .rfl, fun _ => .rfl, fun _ => .rfl,
      fun c => sep_mono (Entails.of_eq (held_eq c (W4 m c)).symm) .rfl, fun _ => .rfl⟩)
    (hinit := by
      refine Pipeline.initEach LL lv fun c => ?_
      rw [show (unscopedBufs c (fun b => m ((c : Thread nD τ).loc b)) : sProp 𝕄) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = W5 m c b)
    (hfin := fun c s' => ?_)
    (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W5 m c) s') $$ [Hh HSI]
  · isplitl [Hh] <;> iassumption
  icases Hr with ⟨%h, HSI⟩
  imodintro
  isplitr
  · ipureintro; exact h
  · iexact HSI

/-- The frame: the arguments end as they started, every counter at zero. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono
    (fun _ h => ⟨fun c => ⟨(h.1 c _ mem_arg0).trans (W5_arg0 m c), (h.1 c _ mem_arg1).trans (W5_arg1 m c)⟩, h.2⟩) (run_main m ρ)

/-- The five results at the end, and the arguments unchanged. -/
theorem run_results (ρ : Dev nD → PrngReg) :
    θ_run defs (onTc (τ := τ) (main (F := F))) ⟨m, fun _ => 0, ρ⟩ (fun r => ∀ c : Dev nD,
      r.2.mem ((c.tc : Thread nD τ).loc main_v4) = W5 m c main_v4
      ∧ r.2.mem ((c.tc : Thread nD τ).loc main_v2_1) = W5 m c main_v2_1
      ∧ r.2.mem ((c.tc : Thread nD τ).loc main_v5) = W5 m c main_v5
      ∧ r.2.mem ((c.tc : Thread nD τ).loc main_v6) = W5 m c main_v6
      ∧ r.2.mem ((c.tc : Thread nD τ).loc main_v7) = W5 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨h.1 c _ mem_v4, h.1 c _ mem_v21, h.1 c _ mem_v5, h.1 c _ mem_v6, h.1 c _ mem_v7,
      (h.1 c _ mem_arg0).trans (W5_arg0 m c), (h.1 c _ mem_arg1).trans (W5_arg1 m c)⟩) (run_main m ρ)

end Cert.Kernel.Run

end
-- ==== Proof.KernelIdeal.Gamma.lean ====
/-
  The first launch (`gamma`, 35 points), at any float values.

  At point `t` the body adds the magnitudes of a block of 256 rows of the weights, eight rows at a time, into a scratch
  accumulator of 8×1536 words, which it clears at the first point; at the last point it stores the mean of them all into
  a one-word output. `acc` is the accumulator after each point, `dat` the proof data of the launch entered from contents
  `V`, `body_obligation` what the pipeline library asks of the body.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.Regions
public import Idealize.ShloMosaic.Lib.Ring
public import Idealize.ShloMosaic.Lib.Tactic
public import Idealize.ShloMosaic.Lib.WordCmp
public import Idealize.ShloMosaic.Lib.Pipeline.ValueKit.Acc
public import Idealize.ShloMosaic.Lib.Pipeline.TableIdle

@[expose] public section

set_option maxRecDepth 16384

noncomputable section

namespace Cert.KernelIdeal.Gamma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch is taken at the first point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 35 = 0 :=
  (fun t => by
    have ht : t.val < 35 := Nat.lt_of_lt_of_eq t.isLt N_0
    have e0 : (grid0.coords t 0).val = t.val / 1 % 35 := Pipeline.Grid.coords_val t 0 (by decide) rfl
    simp only [cond0, e0]
    word_cmp
   : ∀ t : Fin grid0.N, cond0 (grid0.coords t) ↔ t.val % 35 = 0)

/-- The second branch is taken at the last point only. -/
abbrev cond1 (i : grid0.Coords) : Prop := k0_cond2 i = 1#1
theorem hcond1 : ∀ t : Fin cfg0.N, cond1 (grid0.coords t) ↔ t.val % 35 = 34 :=
  (fun t => by
    have ht : t.val < 35 := Nat.lt_of_lt_of_eq t.isLt N_0
    have e0 : (grid0.coords t 0).val = t.val / 1 % 35 := Pipeline.Grid.coords_val t 0 (by decide) rfl
    simp only [cond1, k0_cond2, e0]
    word_cmp
   : ∀ t : Fin grid0.N, cond1 (grid0.coords t) ↔ t.val % 35 = 34)

/-- The output is idle, and not written back, at every point but the last. -/
theorem idleAt1 : ∀ t : Fin cfg0.N, ¬cond1 (grid0.coords t) → cfg0.idle 1 (grid0.coords t) = true := by decide +kernel
theorem noFlush1 : ∀ t : Fin cfg0.N, ¬cond1 (grid0.coords t) → (cfg0.win 1).flush t = false := by decide +kernel
theorem liveAt1 : ∀ t : Fin cfg0.N, cond1 (grid0.coords t) → cfg0.idle 1 (grid0.coords t) = false := by decide +kernel

/-! ## The body on any staging memrefs -/

set_option maxHeartbeats 1000000 in
/-- At the first point: the accumulator, whatever it held, ends at the block's sums over zeros. -/
theorem gamma_first (c : Dev nD) (i : grid0.Coords) (arg1 : Memref sig .tc .vmem S256x1536 .bf16) (harg1 : arg1.IsWhole) (arg2 : Memref sig .tc .smem S1x1 .f32) (harg2 : arg2.IsWhole) (arg3 : Memref sig .tc .vmem S8x1536 .f32) (harg3 : arg3.IsWhole) (hc0 : cond0 i) (hc1 : ¬cond1 i)
    (x0 : Vec F S256x1536 .bf16) (E : Set ℕ) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k0_pay2 x0 (k0_pay1 (F := F)))) -∗ K ⟨⟩))
      ⊢ wp frame (wpE (defs₀ (F := F)) Variants.none c none) E (cc0_gamma i arg1 harg1 arg2 harg2 arg3 harg3) K := by
  simp only [cc0_gamma_eq_skeleton]; unfold cc0_gamma_skel
  unfold owns
  iintro ⟨⟨%f0, %hf0, H0⟩, ⟨%ds, %fs, -, HS⟩, Hk⟩
  obtain rfl := harg1.eq_unread hf0
  sl_exec (disch := first | sl_exact hc0 | sl_exact hc1)
  sl_step
  iapply Hk
  isplitl [H0]
  · iexists _; isplitr; · ipureintro; exact harg1.read_unread _
    iexact H0
  iexists _; isplitr; swap; · iexact HS
  ipureintro
  sl_unfold_words
  rw [View.read_writes_eq_canon _ _ _ (View.cover_of_tiledL _ S8x1536.size (by sl_kernel_rfl))]
  simp (disch := decide) only [View.canon_cons_unit_lit', View.ld_unit_lit', View.readAt_eq_ld, Memref.IsWhole.read_unread, View.readCov_unit_lit', View.readCov_cons_unit_lit', View.read_writes_junk_eq_canon]

set_option maxHeartbeats 1000000 in
/-- At a point between: the block's sums are added to the accumulator. -/
theorem gamma_next (c : Dev nD) (i : grid0.Coords) (arg1 : Memref sig .tc .vmem S256x1536 .bf16) (harg1 : arg1.IsWhole) (arg2 : Memref sig .tc .smem S1x1 .f32) (harg2 : arg2.IsWhole) (arg3 : Memref sig .tc .vmem S8x1536 .f32) (harg3 : arg3.IsWhole) (hc0 : ¬cond0 i) (hc1 : ¬cond1 i)
    (x0 : Vec F S256x1536 .bf16) (xs : Vec F S8x1536 .f32) (E : Set ℕ) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k0_pay2 x0 xs)) -∗ K ⟨⟩))
      ⊢ wp frame (wpE (defs₀ (F := F)) Variants.none c none) E (cc0_gamma i arg1 harg1 arg2 harg2 arg3 harg3) K := by
  simp only [cc0_gamma_eq_skeleton]; unfold cc0_gamma_skel
  unfold owns
  iintro ⟨⟨%f0, %hf0, H0⟩, ⟨%fs, %hfs, HS⟩, Hk⟩
  obtain rfl := harg1.eq_unread hf0; obtain rfl := harg3.eq_unread hfs
  sl_exec (disch := first | sl_exact hc0 | sl_exact hc1)
  sl_step
  iapply Hk
  isplitl [H0]
  · iexists _; isplitr; · ipureintro; exact harg1.read_unread _
    iexact H0
  iexists _; isplitr; swap; · iexact HS
  ipureintro
  sl_unfold_words
  rw [View.read_writes_eq_canon _ _ _ (View.cover_of_tiledL _ S8x1536.size (by sl_kernel_rfl))]
  simp (disch := decide) only [View.canon_cons_unit_lit', View.ld_unit_lit', View.readAt_eq_ld, Memref.IsWhole.read_unread, View.readCov_unit_lit', View.readCov_cons_unit_lit', View.read_writes_junk_eq_canon]

set_option maxHeartbeats 1000000 in
/-- At the last point: the same, and the output word ends at the mean read off the accumulator. -/
theorem gamma_last (c : Dev nD) (i : grid0.Coords) (arg1 : Memref sig .tc .vmem S256x1536 .bf16) (harg1 : arg1.IsWhole) (arg2 : Memref sig .tc .smem S1x1 .f32) (harg2 : arg2.IsWhole) (arg3 : Memref sig .tc .vmem S8x1536 .f32) (harg3 : arg3.IsWhole) (hc0 : ¬cond0 i) (hc1 : cond1 i)
    (x0 : Vec F S256x1536 .bf16) (xs : Vec F S8x1536 .f32) (E : Set ℕ) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (fun _ => k0_pay3 (k0_pay2 x0 xs)) ∗ owns (c : Thread nD τ) arg3 fullShare (k0_pay2 x0 xs)) -∗ K ⟨⟩))
      ⊢ wp frame (wpE (defs₀ (F := F)) Variants.none c none) E (cc0_gamma i arg1 harg1 arg2 harg2 arg3 harg3) K := by
  simp only [cc0_gamma_eq_skeleton]; unfold cc0_gamma_skel
  unfold owns
  iintro ⟨⟨%f0, %hf0, H0⟩, ⟨%d1, %f1, -, H1⟩, ⟨%fs, %hfs, HS⟩, Hk⟩
  obtain rfl := harg1.eq_unread hf0; obtain rfl := harg3.eq_unread hfs
  sl_exec (disch := first | sl_exact hc0 | sl_exact hc1)
  sl_step
  iapply Hk
  isplitl [H0]
  · iexists _; isplitr; · ipureintro; exact harg1.read_unread _
    iexact H0
  isplitl [H1]
  · iexists _; isplitr; swap; · iexact H1
    ipureintro
    sl_unfold_words
    rw [View.read_writes_eq_canon _ _ _ (View.cover_of_tiledL _ S1x1.size (by sl_kernel_rfl))]
    simp (disch := decide) only [View.canon_cons_unit_lit', View.ld_unit_lit', View.readAt_eq_ld, Memref.IsWhole.read_unread, View.readCov_unit_lit', View.readCov_cons_unit_lit', View.read_writes_junk_eq_canon]
    rfl
  iexists _; isplitr; swap; · iexact HS
  ipureintro
  sl_unfold_words
  rw [View.read_writes_eq_canon _ _ _ (View.cover_of_tiledL _ S8x1536.size (by sl_kernel_rfl))]
  simp (disch := decide) only [View.canon_cons_unit_lit', View.ld_unit_lit', View.readAt_eq_ld, Memref.IsWhole.read_unread, View.readCov_unit_lit', View.readCov_cons_unit_lit', View.read_writes_junk_eq_canon]

/-! ## The windows' blocks -/

/-- What the core's buffers hold when the launch is entered. -/
abbrev Entry (F : FTy → Type) : Type := (c : Dev nD) → (b : Ref sig .tc) → Buf (Elt F) ((c : Thread nD τ).loc b)

variable (V : Entry F)

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The accumulator and the proof data -/

/-- The accumulator after point `n`: zeros with the sums of the blocks up to `n` added one after another. -/
def acc (c : Dev nD) : (n : ℕ) → n < cfg0.N → Vec F S8x1536 .f32
  | 0, hn => k0_pay2 (iblk V c 0 ⟨0, hn⟩) (k0_pay1 (F := F))
  | n + 1, hn => k0_pay2 (iblk V c 0 ⟨n + 1, hn⟩) (acc c n (Nat.lt_of_succ_lt hn))

theorem acc_zero (c : Dev nD) (t : Fin cfg0.N) (h : t.val = 0) : acc V c t.val t.isLt = k0_pay2 (iblk V c 0 t) (k0_pay1 (F := F)) := by
  obtain ⟨n, hn⟩ := t
  cases n with
  | zero => rfl
  | succ n => exact absurd h (Nat.succ_ne_zero n)

theorem acc_pos (c : Dev nD) (t : Fin cfg0.N) (h : t.val ≠ 0) :
    acc V c t.val t.isLt = k0_pay2 (iblk V c 0 t) (acc V c (t.val - 1) (Nat.lt_of_le_of_lt (Nat.sub_le _ _) t.isLt)) := by
  obtain ⟨n, hn⟩ := t
  cases n with
  | zero => exact absurd rfl h
  | succ n => rfl

/-- The accumulator's buffer as a memref. -/
abbrev scr : Memref sig .tc .vmem S8x1536 .f32 := Memref.whole cc0_scratch0

/-- The scoped buffers of the other two launches, at anything. -/
def rest (c : Dev nD) : sProp 𝕄 :=
  iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f))

/-- The scoped buffers beside the staging ones: the accumulator, and the rest. -/
theorem scoped_eq (c : Dev nD) : (Pipeline.scopedRest spec0 c : sProp 𝕄) = iprop((∃ d, owns (c : Thread nD τ) scr fullShare d) ∗ rest c) := by
  rw [scopedRest0_eq]; unfold rest; simp only [scr, owns_whole]; try rfl

/-- Between points: the accumulator at what the point before left, the rest at anything. -/
def Phi (c : Dev nD) : (n : ℕ) → n ≤ cfg0.N → sProp 𝕄
  | 0, _ => Pipeline.scopedRest spec0 c
  | n + 1, hn => iprop(owns (c : Thread nD τ) scr fullShare (acc V c n hn) ∗ rest c)

theorem Phi_zero (c : Dev nD) (n : ℕ) (h : n ≤ cfg0.N) (hz : n = 0) : Phi V c n h = Pipeline.scopedRest spec0 c := by
  subst hz; rfl

theorem Phi_pos (c : Dev nD) (n : ℕ) (h : n ≤ cfg0.N) (hz : n ≠ 0) :
    Phi V c n h = iprop(owns (c : Thread nD τ) scr fullShare (acc V c (n - 1) (by omega)) ∗ rest c) := by
  cases n with
  | zero => exact absurd rfl hz
  | succ n => rfl

/-- The proof data of the launch on core `c`: the arrays as it finds them; after the body at point `t` the input's
    buffer at its block, the output's at the mean read off the accumulator (asked for at the last point only). -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => fun _ => k0_pay3 (acc V c t.val t.isLt)
  Φ t := Phi V c t.val (Nat.le_of_lt_succ t.isLt)
  q _ := fullShare
  owed _ := 0

/-- The proof data's arrays are the entry contents. -/
theorem A_eq (c : Dev nD) (w : Fin cfg0.W) : (dat V c).A w = V c (Pipeline.arrRef spec0 w) := by
  dsimp only [dat]

theorem Phi_castSucc (c : Dev nD) (t : Fin cfg0.N) : (dat V c).Φ t.castSucc = Phi V c t.val (Nat.le_of_lt t.isLt) := by
  dsimp only [dat]; exact Pipeline.Dat.Φ_castSucc (Phi V c) t

theorem after0 (c : Dev nD) (t : Fin cfg0.N) : (dat V c).after 0 t = iblk V c 0 t := by dsimp only [dat]
theorem after1 (c : Dev nD) (t : Fin cfg0.N) : (dat V c).after 1 t = fun _ => k0_pay3 (acc V c t.val t.isLt) := by dsimp only [dat]

theorem before0 (c : Dev nD) (t : Fin cfg0.N) (d) : (dat V c).before 0 t d = iblk V c 0 t :=
  before0_of V (dat V c) (A_eq V c 0) (after0 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 2400000 in
/-- The body at any point: first, between or last. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl]
  rw [show (dat V c).Φ t.succ = iprop(owns (c : Thread nD τ) scr fullShare (acc V c t.val t.isLt) ∗ rest c) from rfl]
  rw [show (dat V c).leavesExact 0 t = owns (c : Thread nD τ) (st0_0 t) fullShare ((dat V c).after 0 t) from by
    unfold Dat.leavesExact; rw [show cfg0.idle 0 (grid0.coords t) = false from rfl], after0]
  have hN : t.val < 35 := lt_of_lt_of_eq t.isLt (show cfg0.N = 35 from N_0)
  by_cases h1 : cond1 (grid0.coords t)
  · have ht : t.val % 35 = 34 := (hcond1 t).mp h1
    have h0 : ¬cond0 (grid0.coords t) := fun h => by have := (hcond0 t).mp h; omega
    have hz : t.val ≠ 0 := by omega
    rw [show (dat V c).leavesExact 1 t = owns (c : Thread nD τ) (st0_1 t) fullShare ((dat V c).after 1 t) from by
      unfold Dat.leavesExact; rw [liveAt1 t h1], after1]
    rw [Phi_castSucc V c t, Phi_pos V c _ _ hz, acc_pos V c t hz]
    iintro ⟨⟨HS, Hr⟩, Ho, ⟨%d0, H0⟩, ⟨%d1, H1⟩⟩
    iapply (gamma_last c (grid0.coords t) _ _ _ _ _ _ h0 h1 (iblk V c 0 t) _ Set.univ _)
    isplitl [H0]; · iexact H0
    isplitl [H1]; · iexists _; iexact H1
    isplitl [HS]; · iexact HS
    iintro ⟨H0, H1, HS⟩
    isplitl [HS Hr]
    · isplitl [HS]; · iexact HS
      iexact Hr
    isplitl [Ho]; · iexact Ho
    isplitl [H0]; · iexact H0
    iexact H1
  · rw [Dat.leavesExact_idle (dat V c) 1 t (idleAt1 t h1) (noFlush1 t h1)]
    by_cases hz : t.val = 0
    · have h0 : cond0 (grid0.coords t) := (hcond0 t).mpr (by omega)
      rw [Phi_castSucc V c t, Phi_zero V c _ _ hz, acc_zero V c t hz, scoped_eq]
      iintro ⟨⟨HS, Hr⟩, Ho, ⟨%d0, H0⟩, ⟨%d1, H1⟩⟩
      iapply (gamma_first c (grid0.coords t) _ _ _ _ _ _ h0 h1 (iblk V c 0 t) Set.univ _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1
    · have h0 : ¬cond0 (grid0.coords t) := fun h => by have := (hcond0 t).mp h; omega
      rw [Phi_castSucc V c t, Phi_pos V c _ _ hz, acc_pos V c t hz]
      iintro ⟨⟨HS, Hr⟩, Ho, ⟨%d0, H0⟩, ⟨%d1, H1⟩⟩
      iapply (gamma_next c (grid0.coords t) _ _ _ _ _ _ h0 h1 (iblk V c 0 t) _ Set.univ _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- Before the first point the scoped rest is what is carried, -/
theorem hin (c : Dev nD) : (Pipeline.scopedRest spec0 c : sProp 𝕄) ⊢ (dat V c).Φ 0 := by
  rw [show (dat V c).Φ 0 = Phi V c 0 (Nat.zero_le _) from rfl, Phi_zero V c 0 _ rfl]
  try exact Idealize.SL.BI.Entails.refl _

/-- and after the last one it is given back, the accumulator's contents forgotten. -/
theorem hout (c : Dev nD) : (dat V c).Φ (Fin.last cfg0.N) ⊢ (Pipeline.scopedRest spec0 c : sProp 𝕄) := by
  rw [show (dat V c).Φ (Fin.last cfg0.N) = Phi V c cfg0.N (Nat.le_refl _) from rfl,
    Phi_pos V c _ _ (by have : cfg0.N = 35 := N_0; omega), scoped_eq]
  iintro ⟨HS, Hr⟩
  isplitl [HS]
  · iexists _; iexact HS
  iexact Hr

end Cert.KernelIdeal.Gamma

end
-- ==== Proof.KernelIdeal.Ternary.lean ====
/-
  The second launch (`ternary`, 35 points), at any float values.

  At point `t` the body reads the mean magnitude (one word) and a block of 256 rows of the weights; it stores the
  transposed ternary block and the packed block. `ternary_run` is the body on any staging memrefs, `dat` the proof data
  of the launch entered from contents `V`, `body_obligation` what the pipeline library asks of the body.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.Regions
public import Idealize.ShloMosaic.Lib.Ring
public import Idealize.ShloMosaic.Lib.Tactic
public import Idealize.ShloMosaic.Lib.WordCmp
public import Idealize.ShloMosaic.Lib.Pipeline.ValueKit.Acc
public import Idealize.ShloMosaic.Lib.Pipeline.TableIdle

@[expose] public section

set_option maxRecDepth 16384

noncomputable section

namespace Cert.KernelIdeal.Ternary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one word of a 1×1 buffer. -/
abbrev word (x : Vec F S1x1 .f32) : Elt F .f32 := x fun a => ⟨0, by revert a; decide⟩

/-- The word a load of the whole 1×1 buffer reads, at any index, is that word. -/
theorem word_ld (x : Vec F S1x1 .f32) (off : Fin S1x1.rank → Nat) (inb) (j : (Rect.unit (s := S1x1) off S1x1.size inb).shape.Idx) :
    View.ld x (Rect.unit (s := S1x1) off S1x1.size inb) j = word x := by
  have h : ∀ (k k' : S1x1.Idx), k = k' := fun k k' => funext fun a => by
    have hs : S1x1.size a = 1 := by revert a; decide
    exact Fin.ext (by have := (k a).isLt; have := (k' a).isLt; omega)
  exact congrArg x (h _ _)

set_option maxHeartbeats 1000000 in
/-- The body on whole staging memrefs: the word and the weights' block are left as they were, the two outputs hold
    the transposed ternary block and the packed block. -/
theorem ternary_run (c : Dev nD) (i : grid1.Coords) (arg1 : Memref sig .tc .smem S1x1 .f32) (harg1 : arg1.IsWhole) (arg2 : Memref sig .tc .vmem S256x1536 .bf16) (harg2 : arg2.IsWhole) (arg3 : Memref sig .tc .vmem S1536x256 .bf16) (harg3 : arg3.IsWhole) (arg4 : Memref sig .tc .vmem S256x384 .i8) (harg4 : arg4.IsWhole)
    (x0 : Vec F S1x1 .f32) (x1 : Vec F S256x1536 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay1 (word x0) x1) ∗ owns (c : Thread nD τ) arg4 fullShare (k1_pay2 (word x0) x1)) -∗ K ⟨⟩))
      ⊢ wp frame (wpE (defs₀ (F := F)) Variants.none c none) E (cc1_ternary i arg1 harg1 arg2 harg2 arg3 harg3 arg4 harg4) K := by
  simp only [cc1_ternary_eq_skeleton]; unfold cc1_ternary_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_words
    rw [View.read_writes_eq_canon _ _ _ (View.cover_of_tiledL _ S1536x256.size (by sl_kernel_rfl))]
    simp (disch := decide) only [View.canon_cons_unit_lit', View.ld_unit_lit', View.readAt_eq_ld, Memref.IsWhole.read_unread]
    exact congrArg (fun z => k1_pay1 z x1) (word_ld x0 _ _ _)
  iexists _; isplitr; swap; · iexact H3
  ipureintro
  sl_unfold_words
  rw [View.read_writes_eq_canon _ _ _ (View.cover_of_tiledL _ S256x384.size (by sl_kernel_rfl))]
  simp (disch := decide) only [View.canon_cons_unit_lit', View.ld_unit_lit', View.readAt_eq_ld, Memref.IsWhole.read_unread]
  exact congrArg (fun z => k1_pay2 z x1) (word_ld x0 _ _ _)

/-! ## The windows' blocks -/

/-- What the core's buffers hold when the launch is entered. -/
abbrev Entry (F : FTy → Type) : Type := (c : Dev nD) → (b : Ref sig .tc) → Buf (Elt F) ((c : Thread nD τ).loc b)

variable (V : Entry F)

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the launch on core `c`: the arrays as it finds them; after the body at point `t` the inputs'
    buffers at their blocks and the outputs' at the two computed blocks; nothing carried between points. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (word (iblk V c 0 t)) (iblk V c 1 t)
    | ⟨3, _⟩ => k1_pay2 (word (iblk V c 0 t)) (iblk V c 1 t)
  Φ _ := Pipeline.scopedRest spec1 c
  q _ := fullShare
  owed _ := 0

/-- The proof data's arrays are the entry contents. -/
theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
/-- After the body the first output holds the transposed ternary block, -/
theorem after2 (c : Dev nD) (t : Fin cfg1.N) : (dat V c).after 2 t = k1_pay1 (word (iblk V c 0 t)) (iblk V c 1 t) := by dsimp only [dat]
/-- and the second the packed block. -/
theorem after3 (c : Dev nD) (t : Fin cfg1.N) : (dat V c).after 3 t = k1_pay2 (word (iblk V c 0 t)) (iblk V c 1 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point, from `ternary_run`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (ternary_run c (grid1.coords t) _ _ _ _ _ _ _ _ (iblk V c 0 t) (iblk V c 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Ternary

end
-- ==== Proof.KernelIdeal.Matmul.lean ====
/-
  The third launch (`matmul`, 24 × 7 points), at any float values.

  At point `(i, j)` the body reads the mean magnitude, a block of 1024 rows of the activations and a block of 1280 columns
  of the transposed ternary weights. At `j = 0` it quantises the rows: the codes as bytes and the scales are two of its
  outputs, the codes as bf16 and the scales spread over 128 lanes are kept in two scratch buffers until the next block of
  rows. At every point it multiplies the codes by the ternary block and stores the rescaled product in ten slabs of 128
  columns. `mmOut` is the block the ten slabs make, `dat` the proof data of the launch entered from contents `V`,
  `body_obligation` what the pipeline library asks of the body.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.Regions
public import Idealize.ShloMosaic.Lib.Ring
public import Idealize.ShloMosaic.Lib.Tactic
public import Idealize.ShloMosaic.Lib.WordCmp
public import Idealize.ShloMosaic.Lib.Pipeline.ValueKit.Acc
public import Idealize.ShloMosaic.Lib.Pipeline.TableIdle
public import proofs.«01_k».proof.Proof.KernelIdeal.Ternary

@[expose] public section

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Ternary (word word_ld)

variable {F : FTy → Type} [FloatOps F]

local notation "𝕄" => MT nD τ sig Unit (Elt F) ℕ (UR sig nD τ) ℕ

/-! ## The body's branch condition -/

/-- The branch that quantises the rows is taken at the first of the seven points of a row block only. -/
abbrev cond (i : grid2.Coords) : Prop := k2_cond1 i = 1#1
theorem hcond : ∀ t : Fin cfg2.N, cond (grid2.coords t) ↔ t.val % 7 = 0 :=
  (fun t => by
    have ht : t.val < 168 := Nat.lt_of_lt_of_eq t.isLt N_2
    have e0 : (grid2.coords t 0).val = t.val / 7 % 24 := Pipeline.Grid.coords_val t 0 (by decide) rfl
    have e1 : (grid2.coords t 1).val = t.val / 1 % 7 := Pipeline.Grid.coords_val t 1 (by decide) rfl
    simp only [cond, k2_cond1, e0, e1]
    word_cmp
   : ∀ t : Fin grid2.N, cond (grid2.coords t) ↔ t.val % 7 = 0)

/-- The codes' and the scales' windows are idle at the other points, and written back at the last of the seven only. -/
theorem live4 : ∀ t : Fin cfg2.N, t.val % 7 = 0 → cfg2.idle 4 (grid2.coords t) = false := by decide +kernel
theorem live5 : ∀ t : Fin cfg2.N, t.val % 7 = 0 → cfg2.idle 5 (grid2.coords t) = false := by decide +kernel
theorem idle4 : ∀ t : Fin cfg2.N, t.val % 7 ≠ 0 → cfg2.idle 4 (grid2.coords t) = true := by decide +kernel
theorem idle5 : ∀ t : Fin cfg2.N, t.val % 7 ≠ 0 → cfg2.idle 5 (grid2.coords t) = true := by decide +kernel
/-- Whether such a window's buffer holds nothing yet: at the first of the seven points. -/
theorem fresh4 : ∀ n, n ≤ cfg2.N → cfg2.fresh 4 n = (n % 7 == 0) :=
  cfg2.fresh_tab 4 (fun n => n % 7 == 0) rfl (by decide +kernel)
theorem fresh5 : ∀ n, n ≤ cfg2.N → cfg2.fresh 5 n = (n % 7 == 0) :=
  cfg2.fresh_tab 5 (fun n => n % 7 == 0) rfl (by decide +kernel)
/-- The rows' window stays on its block through the seven points. -/
theorem index1 : ∀ t : Fin cfg2.N, t.val % 7 ≠ 0 → (cfg2.win 1).index t = (cfg2.win 1).index ⟨t.val - 1, Nat.lt_of_le_of_lt (Nat.sub_le _ _) t.isLt⟩ := by decide +kernel

/-! ## The body on any staging memrefs -/

/-- The ten slab stores, last first, from the codes `a`, the ternary block `b`, the scales `s` (spread
    over 128 lanes) and the mean magnitude `g`. -/
def mmPieces (a : Vec F S1024x1536 .bf16) (b : Vec F S1536x1280 .bf16) (s : Vec F S1024x128 .f32) (g : Elt F .f32) : List (View.Piece (Elt F) S1024x1280 .bf16) := [
    ⟨Rect.unit (s := S1024x1280) ![0, 1152] S1024x128.size inb_S1024x1280_S1024x128_0_1152, k2_pay6 (k2_pay13 a b) s g⟩,
    ⟨Rect.unit (s := S1024x1280) ![0, 1024] S1024x128.size inb_S1024x1280_S1024x128_0_1024, k2_pay5 (k2_pay13 a b) s g⟩,
    ⟨Rect.unit (s := S1024x1280) ![0, 896] S1024x128.size inb_S1024x1280_S1024x128_0_896, k2_pay4 (k2_pay13 a b) s g⟩,
    ⟨Rect.unit (s := S1024x1280) ![0, 768] S1024x128.size inb_S1024x1280_S1024x128_0_768, k2_pay3 (k2_pay13 a b) s g⟩,
    ⟨Rect.unit (s := S1024x1280) ![0, 640] S1024x128.size inb_S1024x1280_S1024x128_0_640, k2_pay2 (k2_pay13 a b) s g⟩,
    ⟨Rect.unit (s := S1024x1280) ![0, 512] S1024x128.size inb_S1024x1280_S1024x128_0_512, k2_pay1 s g (k2_pay18 a b)⟩,
    ⟨Rect.unit (s := S1024x1280) ![0, 384] S1024x128.size inb_S1024x1280_S1024x128_0_384, k2_pay17 a b s g⟩,
    ⟨Rect.unit (s := S1024x1280) ![0, 256] S1024x128.size inb_S1024x1280_S1024x128_0_256, k2_pay16 a b s g⟩,
    ⟨Rect.unit (s := S1024x1280) ![0, 128] S1024x128.size inb_S1024x1280_S1024x128_0_128, k2_pay15 a b s g⟩,
    ⟨Rect.unit (s := S1024x1280) ![0, 0] S1024x128.size inb_S1024x1280_S1024x128_0_0, k2_pay14 a b s g⟩]

/-- They tile the block. -/
theorem mm_cover (a : Vec F S1024x1536 .bf16) (b : Vec F S1536x1280 .bf16) (s : Vec F S1024x128 .f32) (g : Elt F .f32) (y : S1024x1280.Idx) :
    ∃ pc ∈ mmPieces a b s g, y ∈ pc.1.set :=
  View.cover_of_tiledL (mmPieces a b s g) S1024x128.size (by sl_kernel_rfl) y

/-- The block of the product they make. -/
def mmOut (a : Vec F S1024x1536 .bf16) (b : Vec F S1536x1280 .bf16) (s : Vec F S1024x128 .f32) (g : Elt F .f32) : Vec F S1024x1280 .bf16 :=
  View.canon (Val := Elt F) (mmPieces a b s g)

/-- The same block with the mean magnitude read by a load of its one-word buffer. -/
theorem mm_word (xg : Vec F S1x1 .f32) (off : Fin S1x1.rank → Nat) (inb) (j : (Rect.unit (s := S1x1) off S1x1.size inb).shape.Idx)
    (a : Vec F S1024x1536 .bf16) (b : Vec F S1536x1280 .bf16) (s : Vec F S1024x128 .f32) :
    mmOut a b s (View.ld xg (Rect.unit (s := S1x1) off S1x1.size inb) j) = mmOut a b s (word xg) :=
  congrArg (mmOut a b s) (word_ld xg off inb j)

set_option maxHeartbeats 4000000 in
/-- At the first of a row block's seven points: the rows are quantised into the codes' and scales' outputs and the two
    scratch buffers, and the first block of the product is stored. -/
theorem matmul_first (c : Dev nD) (i : grid2.Coords) (arg2 : Memref sig .tc .smem S1x1 .f32) (harg2 : arg2.IsWhole) (arg3 : Memref sig .tc .vmem S1024x1536 .bf16) (harg3 : arg3.IsWhole) (arg4 : Memref sig .tc .vmem S1536x1280 .bf16) (harg4 : arg4.IsWhole) (arg5 : Memref sig .tc .vmem S1024x1280 .bf16) (harg5 : arg5.IsWhole) (arg6 : Memref sig .tc .vmem S1024x1536 .i8) (harg6 : arg6.IsWhole) (arg7 : Memref sig .tc .vmem S1024x1 .f32) (harg7 : arg7.IsWhole) (arg8 : Memref sig .tc .vmem S1024x1536 .bf16) (harg8 : arg8.IsWhole) (arg9 : Memref sig .tc .vmem S1024x128 .f32) (harg9 : arg9.IsWhole) (hc : cond i)
    (xg : Vec F S1x1 .f32) (xx : Vec F S1024x1536 .bf16) (xw : Vec F S1536x1280 .bf16) (E : Set ℕ) (K : PUnit → sProp 𝕄) :
    iprop(owns (c : Thread nD τ) arg2 fullShare (xg) ∗ owns (c : Thread nD τ) arg3 fullShare (xx) ∗ owns (c : Thread nD τ) arg4 fullShare (xw) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare (xg) ∗ owns (c : Thread nD τ) arg3 fullShare (xx) ∗ owns (c : Thread nD τ) arg4 fullShare (xw)
            ∗ owns (c : Thread nD τ) arg5 fullShare (mmOut (k2_pay11 xx) xw (k2_pay12 xx) (word xg)) ∗ owns (c : Thread nD τ) arg6 fullShare (k2_pay10 xx) ∗ owns (c : Thread nD τ) arg7 fullShare (k2_pay8 xx)
            ∗ owns (c : Thread nD τ) arg8 fullShare (k2_pay11 xx) ∗ owns (c : Thread nD τ) arg9 fullShare (k2_pay12 xx)) -∗ K ⟨⟩))
      ⊢ wp frame (wpE (defs₀ (F := F)) Variants.none c none) E (cc2_matmul i arg2 harg2 arg3 harg3 arg4 harg4 arg5 harg5 arg6 harg6 arg7 harg7 arg8 harg8 arg9 harg9) K := by
  simp only [cc2_matmul_eq_skeleton]; unfold cc2_matmul_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  sl_exec (disch := sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    simp (disch := decide) only [View.ld_unit_lit', View.readAt_eq_ld, Memref.IsWhole.read_unread, View.readCov_unit_lit', View.readCov_cons_unit_lit']
    exact (View.read_writes_eq_canon _ _ (mmPieces _ _ _ _) (mm_cover _ _ _ _)).trans (mm_word xg _ _ _ _ _ _)
  isplitl [H6]
  · iexists _; isplitr; swap; · iexact H6
    ipureintro
    sl_unfold_words
    try dsimp only
    rw [View.read_writes_eq_canon _ _ _ (View.cover_of_tiledL _ S1024x1536.size (by sl_kernel_rfl))]
    simp (disch := decide) only [View.canon_cons_unit_lit', View.ld_unit_lit', View.readAt_eq_ld, Memref.IsWhole.read_unread, View.readCov_unit_lit', View.readCov_cons_unit_lit', View.read_writes_junk_eq_canon]
  isplitl [H7]
  · iexists _; isplitr; swap; · iexact H7
    ipureintro
    sl_unfold_words
    try dsimp only
    rw [View.read_writes_eq_canon _ _ _ (View.cover_of_tiledL _ S1024x1.size (by sl_kernel_rfl))]
    simp (disch := decide) only [View.canon_cons_unit_lit', View.ld_unit_lit', View.readAt_eq_ld, Memref.IsWhole.read_unread, View.readCov_unit_lit', View.readCov_cons_unit_lit', View.read_writes_junk_eq_canon]
  isplitl [H8]
  · iexists _; isplitr; swap; · iexact H8
    ipureintro
    sl_unfold_words
    try dsimp only
    rw [View.read_writes_eq_canon _ _ _ (View.cover_of_tiledL _ S1024x1536.size (by sl_kernel_rfl))]
    simp (disch := decide) only [View.canon_cons_unit_lit', View.ld_unit_lit', View.readAt_eq_ld, Memref.IsWhole.read_unread, View.readCov_unit_lit', View.readCov_cons_unit_lit', View.read_writes_junk_eq_canon]
  iexists _; isplitr; swap; · iexact H9
  ipureintro
  sl_unfold_words
  try dsimp only
  rw [View.read_writes_eq_canon _ _ _ (View.cover_of_tiledL _ S1024x128.size (by sl_kernel_rfl))]
  simp (disch := decide) only [View.canon_cons_unit_lit', View.ld_unit_lit', View.readAt_eq_ld, Memref.IsWhole.read_unread, View.readCov_unit_lit', View.readCov_cons_unit_lit', View.read_writes_junk_eq_canon]

set_option maxHeartbeats 4000000 in
/-- At the other six points: the scratch buffers are read, and the next block of the product is stored. -/
theorem matmul_next (c : Dev nD) (i : grid2.Coords) (arg2 : Memref sig .tc .smem S1x1 .f32) (harg2 : arg2.IsWhole) (arg3 : Memref sig .tc .vmem S1024x1536 .bf16) (harg3 : arg3.IsWhole) (arg4 : Memref sig .tc .vmem S1536x1280 .bf16) (harg4 : arg4.IsWhole) (arg5 : Memref sig .tc .vmem S1024x1280 .bf16) (harg5 : arg5.IsWhole) (arg6 : Memref sig .tc .vmem S1024x1536 .i8) (harg6 : arg6.IsWhole) (arg7 : Memref sig .tc .vmem S1024x1 .f32) (harg7 : arg7.IsWhole) (arg8 : Memref sig .tc .vmem S1024x1536 .bf16) (harg8 : arg8.IsWhole) (arg9 : Memref sig .tc .vmem S1024x128 .f32) (harg9 : arg9.IsWhole) (hc : ¬cond i)
    (xg : Vec F S1x1 .f32) (xx : Vec F S1024x1536 .bf16) (xw : Vec F S1536x1280 .bf16) (xa : Vec F S1024x1536 .bf16) (xs : Vec F S1024x128 .f32) (E : Set ℕ) (K : PUnit → sProp 𝕄) :
    iprop(owns (c : Thread nD τ) arg2 fullShare (xg) ∗ owns (c : Thread nD τ) arg3 fullShare (xx) ∗ owns (c : Thread nD τ) arg4 fullShare (xw) ∗ (∃ d, owns (c : Thread nD τ) arg5 fullShare d) ∗ owns (c : Thread nD τ) arg8 fullShare (xa) ∗ owns (c : Thread nD τ) arg9 fullShare (xs)
        ∗ (iprop(owns (c : Thread nD τ) arg2 fullShare (xg) ∗ owns (c : Thread nD τ) arg3 fullShare (xx) ∗ owns (c : Thread nD τ) arg4 fullShare (xw)
            ∗ owns (c : Thread nD τ) arg5 fullShare (mmOut (xa) xw (xs) (word xg)) ∗ owns (c : Thread nD τ) arg8 fullShare (xa) ∗ owns (c : Thread nD τ) arg9 fullShare (xs)) -∗ K ⟨⟩))
      ⊢ wp frame (wpE (defs₀ (F := F)) Variants.none c none) E (cc2_matmul i arg2 harg2 arg3 harg3 arg4 harg4 arg5 harg5 arg6 harg6 arg7 harg7 arg8 harg8 arg9 harg9) K := by
  simp only [cc2_matmul_eq_skeleton]; unfold cc2_matmul_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg2.eq_unread hf2; obtain rfl := harg3.eq_unread hf3; obtain rfl := harg4.eq_unread hf4
  obtain rfl := harg8.eq_unread hf8; obtain rfl := harg9.eq_unread hf9
  sl_exec (disch := sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    simp (disch := decide) only [View.ld_unit_lit', View.readAt_eq_ld, Memref.IsWhole.read_unread, View.readCov_unit_lit', View.readCov_cons_unit_lit']
    exact (View.read_writes_eq_canon _ _ (mmPieces _ _ _ _) (mm_cover _ _ _ _)).trans (mm_word xg _ _ _ _ _ _)
  isplitl [H8]
  · iexists _; isplitr; · ipureintro; exact harg8.read_unread _
    iexact H8
  iexists _; isplitr; · ipureintro; exact harg9.read_unread _
  iexact H9

/-! ## The windows' blocks -/

/-- What the core's buffers hold when the launch is entered. -/
abbrev Entry (F : FTy → Type) : Type := (c : Dev nD) → (b : Ref sig .tc) → Buf (Elt F) ((c : Thread nD τ).loc b)

variable (V : Entry F)

/-- Window `w`'s block at point `t`, read off its array as the launch finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The two scratch buffers as memrefs. -/
abbrev scrA : Memref sig .tc .vmem S1024x1536 .bf16 := Memref.whole cc2_scratch0
abbrev scrS : Memref sig .tc .vmem S1024x128 .f32 := Memref.whole cc2_scratch1

/-- The scoped buffers of the other two launches, at anything. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f))

/-- The scoped buffers beside the staging ones: the two scratch buffers, and the rest. -/
theorem scoped_eq (c : Dev nD) : (Pipeline.scopedRest spec2 c : sProp 𝕄)
    = iprop((∃ d, owns (c : Thread nD τ) scrA fullShare d) ∗ (∃ d, owns (c : Thread nD τ) scrS fullShare d) ∗ rest c) := by
  rw [Pipeline.scopedRest_eq_of_list spec2 c [cc2_scratch0, cc2_scratch1, cc0_stg0_0, cc0_stg0_1, cc0_scratch0, cc1_stg1_0, cc1_stg1_1, cc1_stg2_0, cc1_stg2_1, cc1_stg3_0, cc1_stg3_1, cc0_stg1_0, cc1_stg0_0] (by decide) (by decide)]
  unfold rest; simp only [scrA, scrS, owns_whole]; try rfl

/-- Between points: the scratch buffers at the codes and scales of the rows of the point before, the rest at anything. -/
def Phi (c : Dev nD) : (n : ℕ) → n ≤ cfg2.N → sProp 𝕄
  | 0, _ => Pipeline.scopedRest spec2 c
  | n + 1, hn => iprop(owns (c : Thread nD τ) scrA fullShare (k2_pay11 (iblk V c 1 ⟨n, hn⟩)) ∗ owns (c : Thread nD τ) scrS fullShare (k2_pay12 (iblk V c 1 ⟨n, hn⟩)) ∗ rest c)

theorem Phi_zero (c : Dev nD) (n : ℕ) (h : n ≤ cfg2.N) (hz : n = 0) : Phi V c n h = Pipeline.scopedRest spec2 c := by
  subst hz; rfl

theorem Phi_pos (c : Dev nD) (n : ℕ) (h : n ≤ cfg2.N) (hz : n ≠ 0) :
    Phi V c n h = iprop(owns (c : Thread nD τ) scrA fullShare (k2_pay11 (iblk V c 1 ⟨n - 1, by omega⟩)) ∗ owns (c : Thread nD τ) scrS fullShare (k2_pay12 (iblk V c 1 ⟨n - 1, by omega⟩)) ∗ rest c) := by
  cases n with
  | zero => exact absurd rfl hz
  | succ n => rfl

/-- The proof data of the launch on core `c`: the arrays as it finds them; after the body at point `t` the inputs'
    buffers at their blocks, the outputs' at the product's block and at the codes and scales of the block of rows. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => mmOut (k2_pay11 (iblk V c 1 t)) (iblk V c 2 t) (k2_pay12 (iblk V c 1 t)) (word (iblk V c 0 t))
    | ⟨4, _⟩ => k2_pay10 (iblk V c 1 t)
    | ⟨5, _⟩ => k2_pay8 (iblk V c 1 t)
  Φ t := Phi V c t.val (Nat.le_of_lt_succ t.isLt)
  q _ := fullShare
  owed _ := 0

/-- The proof data's arrays are the entry contents. -/
theorem A_eq (c : Dev nD) (w : Fin cfg2.W) : (dat V c).A w = V c (Pipeline.arrRef spec2 w) := by
  dsimp only [dat]

theorem Phi_castSucc (c : Dev nD) (t : Fin cfg2.N) : (dat V c).Φ t.castSucc = Phi V c t.val (Nat.le_of_lt t.isLt) := by
  dsimp only [dat]; exact Pipeline.Dat.Φ_castSucc (Phi V c) t

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = mmOut (k2_pay11 (iblk V c 1 t)) (iblk V c 2 t) (k2_pay12 (iblk V c 1 t)) (word (iblk V c 0 t)) := by dsimp only [dat]
theorem after4 (c : Dev nD) (t : Fin cfg2.N) : (dat V c).after 4 t = k2_pay10 (iblk V c 1 t) := by dsimp only [dat]
theorem after5 (c : Dev nD) (t : Fin cfg2.N) : (dat V c).after 5 t = k2_pay8 (iblk V c 1 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d

/-- The block of rows is the same through the seven points. -/
theorem iblk1_pred (c : Dev nD) (t : Fin cfg2.N) (h : t.val % 7 ≠ 0) :
    (iblk V c 1 t : Vec F S1024x1536 .bf16) = iblk V c 1 ⟨t.val - 1, Nat.lt_of_le_of_lt (Nat.sub_le _ _) t.isLt⟩ := by
  have key : ∀ (t : Fin cfg2.N) (d), (dat V c).fetched 1 t d = iblk V c 1 t := fun t d => by
    unfold Dat.fetched Dat.blockOf iblk; rw [A_eq]; try rfl
  have d : (cfg2.win 1).block.Idx → Elt F (cfg2.win 1).elt := iblk V c 1 t
  exact (key t d).symm.trans (((dat V c).fetched_congr 1 (index1 t h) rfl d).trans (key _ d))

/-- At the points after the first of the seven, the codes' buffer still holds the codes -/
theorem before4 (c : Dev nD) (t : Fin cfg2.N) (h : t.val % 7 ≠ 0) (d) : (dat V c).before 4 t d = k2_pay10 (iblk V c 1 t) := by
  rw [(dat V c).before_out_traj 4 rfl (fun _ _ => rfl) (fun t ht hi hf => by
    rw [fresh4 _ (Nat.le_of_lt t.isLt)] at hf
    have h7 : t.val % 7 ≠ 0 := by simpa using hf
    rw [after4, after4]; exact congrArg k2_pay10 (iblk1_pred V c t h7)) t.val t rfl d,
    fresh4 _ (Nat.le_of_lt t.isLt), if_neg (by simpa using h), after4]
  exact congrArg k2_pay10 (iblk1_pred V c t h).symm

/-- and the scales' buffer the scales. -/
theorem before5 (c : Dev nD) (t : Fin cfg2.N) (h : t.val % 7 ≠ 0) (d) : (dat V c).before 5 t d = k2_pay8 (iblk V c 1 t) := by
  rw [(dat V c).before_out_traj 5 rfl (fun _ _ => rfl) (fun t ht hi hf => by
    rw [fresh5 _ (Nat.le_of_lt t.isLt)] at hf
    have h7 : t.val % 7 ≠ 0 := by simpa using hf
    rw [after5, after5]; exact congrArg k2_pay8 (iblk1_pred V c t h7)) t.val t rfl d,
    fresh5 _ (Nat.le_of_lt t.isLt), if_neg (by simpa using h), after5]
  exact congrArg k2_pay8 (iblk1_pred V c t h).symm

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

/-- An idle window whose buffer holds what it is asked to hold at a write-back may be left alone. -/
theorem leave_idle (c : Dev nD) (w : Fin cfg2.W) (t : Fin cfg2.N) (hi : cfg2.idle w (cfg2.grid.coords t) = true) (d)
    (hb : (dat V c).before w t d = (dat V c).after w t) :
    (owns (c : Thread nD τ) ((cfg2.win w).stage (cfg2.slots t w)) fullShare ((dat V c).before w t d) : sProp 𝕄) ⊢ (dat V c).leavesExact w t := by
  unfold Dat.leavesExact; rw [hi]
  cases (cfg2.win w).flush t
  · dsimp only
    iintro H; iexists d; iexact H
  · dsimp only
    rw [hb]

set_option maxHeartbeats 4800000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2]
  rw [show (dat V c).owesAt () t.succ = (dat V c).owesAt () t.castSucc from rfl]
  rw [show (dat V c).Φ t.succ = iprop(owns (c : Thread nD τ) scrA fullShare (k2_pay11 (iblk V c 1 t)) ∗ owns (c : Thread nD τ) scrS fullShare (k2_pay12 (iblk V c 1 t)) ∗ rest c) from rfl]
  rw [show (dat V c).leavesExact 0 t = owns (c : Thread nD τ) (st2_0 t) fullShare ((dat V c).after 0 t) from by
    unfold Dat.leavesExact; rw [show cfg2.idle 0 (grid2.coords t) = false from rfl], after0]
  rw [show (dat V c).leavesExact 1 t = owns (c : Thread nD τ) (st2_1 t) fullShare ((dat V c).after 1 t) from by
    unfold Dat.leavesExact; rw [show cfg2.idle 1 (grid2.coords t) = false from rfl], after1]
  rw [show (dat V c).leavesExact 2 t = owns (c : Thread nD τ) (st2_2 t) fullShare ((dat V c).after 2 t) from by
    unfold Dat.leavesExact; rw [show cfg2.idle 2 (grid2.coords t) = false from rfl], after2]
  rw [show (dat V c).leavesExact 3 t = owns (c : Thread nD τ) (st2_3 t) fullShare ((dat V c).after 3 t) from by
    unfold Dat.leavesExact; rw [show cfg2.idle 3 (grid2.coords t) = false from rfl], after3]
  by_cases h7 : t.val % 7 = 0
  · have h1 : cond (grid2.coords t) := (hcond t).mpr h7
    rw [show (dat V c).leavesExact 4 t = owns (c : Thread nD τ) (st2_4 t) fullShare ((dat V c).after 4 t) from by
      unfold Dat.leavesExact; rw [live4 t h7], after4]
    rw [show (dat V c).leavesExact 5 t = owns (c : Thread nD τ) (st2_5 t) fullShare ((dat V c).after 5 t) from by
      unfold Dat.leavesExact; rw [live5 t h7], after5]
    have hΦ : (dat V c).Φ t.castSucc ⊢ (iprop((∃ d, owns (c : Thread nD τ) scrA fullShare d) ∗ (∃ d, owns (c : Thread nD τ) scrS fullShare d) ∗ rest c) : sProp 𝕄) := by
      rw [Phi_castSucc V c t]
      by_cases hz : t.val = 0
      · rw [Phi_zero V c _ _ hz, scoped_eq]
      · rw [Phi_pos V c _ _ hz]
        iintro ⟨HA, HS, Hr⟩
        isplitl [HA]; · iexists _; iexact HA
        isplitl [HS]; · iexists _; iexact HS
        iexact Hr
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨HA, HS, Hr⟩
    iapply (matmul_first c (grid2.coords t) _ _ _ _ _ _ _ _ _ _ _ _ _ _ _ _ h1 (iblk V c 0 t) (iblk V c 1 t) (iblk V c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HA]; · iexact HA
    isplitl [HS]; · iexact HS
    iintro ⟨H0, H1, H2, H3, H4, H5, HA, HS⟩
    isplitl [HA HS Hr]
    · isplitl [HA]; · iexact HA
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexact H5
  · have h1 : ¬cond (grid2.coords t) := fun h => h7 ((hcond t).mp h)
    have hz : t.val ≠ 0 := by omega
    rw [Phi_castSucc V c t, Phi_pos V c _ _ hz, ← iblk1_pred V c t h7]
    iintro ⟨⟨HA, HS, Hr⟩, Ho, ⟨%d0, H0⟩, ⟨%d1, H1⟩, ⟨%d2, H2⟩, ⟨%d3, H3⟩, ⟨%d4, H4⟩, ⟨%d5, H5⟩⟩
    iapply (matmul_next c (grid2.coords t) _ _ _ _ _ _ _ _ _ (hstage2_4 ((cfg2.slots t 4).cast nbuf2_4)) _ (hstage2_5 ((cfg2.slots t 5).cast nbuf2_5)) _ _ _ _ h1 (iblk V c 0 t) (iblk V c 1 t) (iblk V c 2 t) _ _ Set.univ _)
    isplitl [H0]; · iexact H0
    isplitl [H1]; · iexact H1
    isplitl [H2]; · iexact H2
    isplitl [H3]; · iexists _; iexact H3
    isplitl [HA]; · iexact HA
    isplitl [HS]; · iexact HS
    iintro ⟨H0, H1, H2, H3, HA, HS⟩
    isplitl [HA HS Hr]
    · isplitl [HA]; · iexact HA
      isplitl [HS]; · iexact HS
      iexact Hr
    isplitl [Ho]; · iexact Ho
    isplitl [H0]; · iexact H0
    isplitl [H1]; · iexact H1
    isplitl [H2]; · iexact H2
    isplitl [H3]; · iexact H3
    isplitl [H4]
    · iapply (leave_idle V c 4 t (idle4 t h7) d4 ((before4 V c t h7 d4).trans (after4 V c t).symm))
      iexact H4
    iapply (leave_idle V c 5 t (idle5 t h7) d5 ((before5 V c t h7 d5).trans (after5 V c t).symm))
    iexact H5

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- Before the first point the scoped rest is what is carried, -/
theorem hin (c : Dev nD) : (Pipeline.scopedRest spec2 c : sProp 𝕄) ⊢ (dat V c).Φ 0 := by
  rw [show (dat V c).Φ 0 = Phi V c 0 (Nat.zero_le _) from rfl, Phi_zero V c 0 _ rfl]
  try exact Idealize.SL.BI.Entails.refl _

/-- and after the last one it is given back, the scratch contents forgotten. -/
theorem hout (c : Dev nD) : (dat V c).Φ (Fin.last cfg2.N) ⊢ (Pipeline.scopedRest spec2 c : sProp 𝕄) := by
  rw [show (dat V c).Φ (Fin.last cfg2.N) = Phi V c cfg2.N (Nat.le_refl _) from rfl,
    Phi_pos V c _ _ (by have : cfg2.N = 168 := N_2; omega), scoped_eq]
  iintro ⟨HA, HS, Hr⟩
  isplitl [HA]; · iexists _; iexact HA
  isplitl [HS]; · iexists _; iexact HS
  iexact Hr

end Cert.KernelIdeal.Matmul

end
-- ==== Proof.KernelIdeal.Run.lean ====
/-
  The run of the whole kernel program, at any float values: a host reshape, the three launches one after the other, four
  host reshapes.

  `W1` … `W5` are a core's unscoped buffers after each of the five items; each launch leaves in its result arrays what
  its proof data's write-backs make of them. `run_main` says: from any memory with zero counters every weakly fair
  execution terminates, and every final state holds in every unscoped buffer of every core what `W5` says, with every
  semaphore counter at zero. `run_frame` reads it at the arguments.
-/
module

public import proofs.«01_k».proof.Proof.Gen.KernelIdeal.Launch
public import proofs.«01_k».proof.Proof.Gen.KernelIdeal.Regions
public import proofs.«01_k».proof.Proof.KernelIdeal.Gamma
public import proofs.«01_k».proof.Proof.KernelIdeal.Ternary
public import proofs.«01_k».proof.Proof.KernelIdeal.Matmul
public import Idealize.ShloMosaic.Lib.Pipeline.RegionsLoop
public import Idealize.ShloMosaic.Lib.Pipeline.Kit

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers between the items -/

/-- Core `c`'s unscoped buffers after the first reshape. -/
abbrev W1 (c : Dev nD) : Valuation τ sig (Elt F) := StableHlo.after hostOps0 (V0 m c)
/-- The same, as a launch's entry contents. -/
abbrev E1 : Gamma.Entry F := fun c b => W1 m c b
/-- What the first launch leaves in its one-word array. -/
def out1 (c : Dev nD) : Buf (Elt F) ((c : Thread nD τ).loc main_v1) := (Gamma.dat (E1 m) c).arrAt 1 cfg0.N
/-- … after the first launch. -/
abbrev W2 (c : Dev nD) : Valuation τ sig (Elt F) := Function.update (W1 m c) main_v1 (out1 m c)
abbrev E2 : Ternary.Entry F := fun c b => W2 m c b
/-- What the second launch leaves in its first and second array. -/
def out20 (c : Dev nD) : Buf (Elt F) ((c : Thread nD τ).loc main_v2_0) := (Ternary.dat (E2 m) c).arrAt 2 cfg1.N
def out21 (c : Dev nD) : Buf (Elt F) ((c : Thread nD τ).loc main_v2_1) := (Ternary.dat (E2 m) c).arrAt 3 cfg1.N
/-- … after the second launch. -/
abbrev W3 (c : Dev nD) : Valuation τ sig (Elt F) := Function.update (Function.update (W2 m c) main_v2_0 (out20 m c)) main_v2_1 (out21 m c)
abbrev E3 : Matmul.Entry F := fun c b => W3 m c b
/-- What the third launch leaves in its three arrays. -/
def out30 (c : Dev nD) : Buf (Elt F) ((c : Thread nD τ).loc main_v3_0) := (Matmul.dat (E3 m) c).arrAt 3 cfg2.N
def out31 (c : Dev nD) : Buf (Elt F) ((c : Thread nD τ).loc main_v3_1) := (Matmul.dat (E3 m) c).arrAt 4 cfg2.N
def out32 (c : Dev nD) : Buf (Elt F) ((c : Thread nD τ).loc main_v3_2) := (Matmul.dat (E3 m) c).arrAt 5 cfg2.N
/-- … after the third launch. -/
abbrev W4 (c : Dev nD) : Valuation τ sig (Elt F) :=
  Function.update (Function.update (Function.update (W3 m c) main_v3_0 (out30 m c)) main_v3_1 (out31 m c)) main_v3_2 (out32 m c)
abbrev E4 : Matmul.Entry F := fun c b => W4 m c b
/-- … at the end, after the last four reshapes. -/
abbrev W5 (c : Dev nD) : Valuation τ sig (Elt F) := StableHlo.after hostOps3 (W4 m c)

theorem W1_of (c : Dev nD) (r : Ref sig .tc) (h : r ∉ hostOps0_W) : W1 m c r = V0 m c r :=
  StableHlo.after_of_writes_sub hostOps0 _ hostOps0_writes h
theorem W2_of (c : Dev nD) (r : Ref sig .tc) (h : r ≠ main_v1) : W2 m c r = W1 m c r :=
  Function.update_of_ne (StableHlo.devRef_ne_of_ne h : (Proc.devRef .tc r : DevRef τ sig) ≠ Proc.devRef .tc main_v1) _ _
theorem W3_of (c : Dev nD) (r : Ref sig .tc) (h0 : r ≠ main_v2_0) (h1 : r ≠ main_v2_1) : W3 m c r = W2 m c r :=
  (Function.update_of_ne (StableHlo.devRef_ne_of_ne h1 : (Proc.devRef .tc r : DevRef τ sig) ≠ Proc.devRef .tc main_v2_1) _ _).trans
    (Function.update_of_ne (StableHlo.devRef_ne_of_ne h0 : (Proc.devRef .tc r : DevRef τ sig) ≠ Proc.devRef .tc main_v2_0) _ _)
theorem W4_of (c : Dev nD) (r : Ref sig .tc) (h0 : r ≠ main_v3_0) (h1 : r ≠ main_v3_1) (h2 : r ≠ main_v3_2) : W4 m c r = W3 m c r :=
  (Function.update_of_ne (StableHlo.devRef_ne_of_ne h2 : (Proc.devRef .tc r : DevRef τ sig) ≠ Proc.devRef .tc main_v3_2) _ _).trans
    ((Function.update_of_ne (StableHlo.devRef_ne_of_ne h1 : (Proc.devRef .tc r : DevRef τ sig) ≠ Proc.devRef .tc main_v3_1) _ _).trans
      (Function.update_of_ne (StableHlo.devRef_ne_of_ne h0 : (Proc.devRef .tc r : DevRef τ sig) ≠ Proc.devRef .tc main_v3_0) _ _))
theorem W5_of (c : Dev nD) (r : Ref sig .tc) (h : r ∉ hostOps3_W) : W5 m c r = W4 m c r :=
  StableHlo.after_of_writes_sub hostOps3 _ hostOps3_writes h

theorem W2_v1 (c : Dev nD) : W2 m c main_v1 = out1 m c := Function.update_self _ _ _
theorem W3_v21 (c : Dev nD) : W3 m c main_v2_1 = out21 m c := Function.update_self _ _ _
theorem W3_v20 (c : Dev nD) : W3 m c main_v2_0 = out20 m c :=
  (Function.update_of_ne (StableHlo.devRef_ne_of_ne (by decide) : (Proc.devRef .tc main_v2_0 : DevRef τ sig) ≠ Proc.devRef .tc main_v2_1) _ _).trans
    (Function.update_self _ _ _)
theorem W4_v32 (c : Dev nD) : W4 m c main_v3_2 = out32 m c := Function.update_self _ _ _
theorem W4_v31 (c : Dev nD) : W4 m c main_v3_1 = out31 m c :=
  (Function.update_of_ne (StableHlo.devRef_ne_of_ne (by decide) : (Proc.devRef .tc main_v3_1 : DevRef τ sig) ≠ Proc.devRef .tc main_v3_2) _ _).trans
    (Function.update_self _ _ _)
theorem W4_v30 (c : Dev nD) : W4 m c main_v3_0 = out30 m c :=
  (Function.update_of_ne (StableHlo.devRef_ne_of_ne (by decide) : (Proc.devRef .tc main_v3_0 : DevRef τ sig) ≠ Proc.devRef .tc main_v3_2) _ _).trans
    ((Function.update_of_ne (StableHlo.devRef_ne_of_ne (by decide) : (Proc.devRef .tc main_v3_0 : DevRef τ sig) ≠ Proc.devRef .tc main_v3_1) _ _).trans
      (Function.update_self _ _ _))

/-- No item writes an argument. -/
theorem W5_arg0 (c : Dev nD) : W5 m c main_arg0 = m ((c : Thread nD τ).loc main_arg0) :=
  (W5_of m c main_arg0 (by decide)).trans <| (W4_of m c main_arg0 (by decide) (by decide) (by decide)).trans <|
    (W3_of m c main_arg0 (by decide) (by decide)).trans <| (W2_of m c main_arg0 (by decide)).trans <| (W1_of m c main_arg0 (by decide)).trans rfl
theorem W5_arg1 (c : Dev nD) : W5 m c main_arg1 = m ((c : Thread nD τ).loc main_arg1) :=
  (W5_of m c main_arg1 (by decide)).trans <| (W4_of m c main_arg1 (by decide) (by decide) (by decide)).trans <|
    (W3_of m c main_arg1 (by decide) (by decide)).trans <| (W2_of m c main_arg1 (by decide)).trans <| (W1_of m c main_arg1 (by decide)).trans rfl

/-! ## The launches' records -/

abbrev 𝒱₀ : Variants := Variants.none
abbrev LL : GSem nD τ sig → Finset Unit := fun _ => ∅
abbrev lv : GSem nD τ sig → Unit → ℕ := fun _ _ => 0
/-- What a core holds beside its buffers: it owes nothing. -/
abbrev R (c : Dev nD) : sProp 𝕄 := iprop(∃ W, owes (c : Thread nD τ) (0 : CellTallies nD τ sig Unit) W)

/-- The three launches' proof data, each entered from the buffers before it. -/
def pdats : (p : Fin 3) → (c : Dev nD) → Dat τ (Elt F) Unit ℕ (UR sig nD τ) ℕ (Pipeline.pin (pcfgs (F := F)) adm p) c
  | ⟨0, _⟩ => fun c => Gamma.dat (E1 m) c
  | ⟨1, _⟩ => fun c => Ternary.dat (E2 m) c
  | ⟨2, _⟩ => fun c => Matmul.dat (E3 m) c

set_option backward.isDefEq.respectTransparency.types false in
/-- The first launch, from the buffers `W1` to the buffers `W2`. -/
def reg0 : RegionSeg (pcfgs (F := F)) adm (pdats m) () defs₀ 𝒱₀ LL lv 0 where
  win := launch0.win.to₀
  block_pos := launch0.block_pos
  stage_whole := launch0.stage_whole
  K := PEmpty
  osem k := k.elim
  ho := Pipeline.OwnSemFacts.none _
  hbody c := (Gamma.body_obligation (E1 m) c).loose
  hwaits := Pipeline.hwaits_of_owed_zero _ _ _ _ LL lv 0 fun _ _ => rfl
  pre c := iprop(unscopedBufs c (E1 m c) ∗ R c)
  post c := iprop(unscopedBufs c (E2 m c) ∗ R c)
  X _ := BI.emp
  Y _ := BI.emp
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) (Gamma.A_eq (E1 m) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (Gamma.dat (E1 m) c).Φ 0 from rfl]
    iintro ⟨-, -, Hr⟩
    iapply (Gamma.hin (E1 m) c)
    iexact Hr
  hout c := by
    rw [Pipeline.ownSems0_none, show (pdats m 0 c).Φ (Fin.last (Pipeline.pin (pcfgs (F := F)) adm 0).N) = (Gamma.dat (E1 m) c).Φ (Fin.last cfg0.N) from rfl]
    iintro Hr
    isplitr; · iempintro
    isplitr; · iempintro
    iapply (Gamma.hout (E1 m) c)
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl) (E1 m c) (E2 m c) ((pdats m 0 c).arrAt · cfg0.N)
      (fun w => by
        fin_cases w
        · exact (((pdats m 0 c).arrAt_in 0 rfl _).trans (Gamma.A_eq (E1 m) c 0)).trans (W2_of m c main_arg1 (by decide)).symm
        · exact (W2_v1 m c).symm)
      (fun b hb => W2_of m c b fun h => hb (h ▸ Finset.mem_image.mpr ⟨1, Finset.mem_univ _, rfl⟩))
    iintro ⟨Ha, HO, -, Hrest⟩
    imodintro
    isplitl [Ha Hrest]; · iapply hjoin; isplitl [Ha] <;> iassumption
    unfold Pipeline.Dat.owesAt Pipeline.owesWithin
    icases HO with ⟨%W, -, HO⟩; iexists W; iexact HO

set_option backward.isDefEq.respectTransparency.types false in
/-- The second launch, from the buffers `W2` to the buffers `W3`. -/
def reg1 : RegionSeg (pcfgs (F := F)) adm (pdats m) () defs₀ 𝒱₀ LL lv 1 where
  win := launch1.win.to₀
  block_pos := launch1.block_pos
  stage_whole := launch1.stage_whole
  K := PEmpty
  osem k := k.elim
  ho := Pipeline.OwnSemFacts.none _
  hbody c := (Ternary.body_obligation (E2 m) c).loose
  hwaits := Pipeline.hwaits_of_owed_zero _ _ _ _ LL lv 1 fun _ _ => rfl
  pre c := iprop(unscopedBufs c (E2 m c) ∗ R c)
  post c := iprop(unscopedBufs c (E3 m c) ∗ R c)
  X _ := BI.emp
  Y _ := BI.emp
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) (Ternary.A_eq (E2 m) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩
    iexact Hr
  hout c := by
    rw [Pipeline.ownSems0_none, show (pdats m 1 c).Φ (Fin.last (Pipeline.pin (pcfgs (F := F)) adm 1).N) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl) (E2 m c) (E3 m c) ((pdats m 1 c).arrAt · cfg1.N)
      (fun w => by
        fin_cases w
        · exact (((pdats m 1 c).arrAt_in 0 rfl _).trans (Ternary.A_eq (E2 m) c 0)).trans (W3_of m c main_v1 (by decide) (by decide)).symm
        · exact (((pdats m 1 c).arrAt_in 1 rfl _).trans (Ternary.A_eq (E2 m) c 1)).trans (W3_of m c main_arg1 (by decide) (by decide)).symm
        · exact (W3_v20 m c).symm
        · exact (W3_v21 m c).symm)
      (fun b hb => W3_of m c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]; · iapply hjoin; isplitl [Ha] <;> iassumption
    unfold Pipeline.Dat.owesAt Pipeline.owesWithin
    icases HO with ⟨%W, -, HO⟩; iexists W; iexact HO

set_option backward.isDefEq.respectTransparency.types false in
/-- The third launch, from the buffers `W3` to the buffers `W4`. -/
def reg2 : RegionSeg (pcfgs (F := F)) adm (pdats m) () defs₀ 𝒱₀ LL lv 2 where
  win := launch2.win.to₀
  block_pos := launch2.block_pos
  stage_whole := launch2.stage_whole
  K := PEmpty
  osem k := k.elim
  ho := Pipeline.OwnSemFacts.none _
  hbody c := (Matmul.body_obligation (E3 m) c).loose
  hwaits := Pipeline.hwaits_of_owed_zero _ _ _ _ LL lv 2 fun _ _ => rfl
  pre c := iprop(unscopedBufs c (E3 m c) ∗ R c)
  post c := iprop(unscopedBufs c (E4 m c) ∗ R c)
  X _ := BI.emp
  Y _ := BI.emp
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) (Matmul.A_eq (E3 m) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = (Matmul.dat (E3 m) c).Φ 0 from rfl]
    iintro ⟨-, -, Hr⟩
    iapply (Matmul.hin (E3 m) c)
    iexact Hr
  hout c := by
    rw [Pipeline.ownSems0_none, show (pdats m 2 c).Φ (Fin.last (Pipeline.pin (pcfgs (F := F)) adm 2).N) = (Matmul.dat (E3 m) c).Φ (Fin.last cfg2.N) from rfl]
    iintro Hr
    isplitr; · iempintro
    isplitr; · iempintro
    iapply (Matmul.hout (E3 m) c)
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl) (E3 m c) (E4 m c) ((pdats m 2 c).arrAt · cfg2.N)
      (fun w => by
        fin_cases w
        · exact (((pdats m 2 c).arrAt_in 0 rfl _).trans (Matmul.A_eq (E3 m) c 0)).trans (W4_of m c main_v1 (by decide) (by decide) (by decide)).symm
        · exact (((pdats m 2 c).arrAt_in 1 rfl _).trans (Matmul.A_eq (E3 m) c 1)).trans (W4_of m c main_v0 (by decide) (by decide) (by decide)).symm
        · exact (((pdats m 2 c).arrAt_in 2 rfl _).trans (Matmul.A_eq (E3 m) c 2)).trans (W4_of m c main_v2_0 (by decide) (by decide) (by decide)).symm
        · exact (W4_v30 m c).symm
        · exact (W4_v31 m c).symm
        · exact (W4_v32 m c).symm)
      (fun b hb => W4_of m c b (fun h => hb (h ▸ Finset.mem_image.mpr ⟨3, Finset.mem_univ _, rfl⟩))
        (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]; · iapply hjoin; isplitl [Ha] <;> iassumption
    unfold Pipeline.Dat.owesAt Pipeline.owesWithin
    icases HO with ⟨%W, -, HO⟩; iexists W; iexact HO

/-! ## The host stretches -/

/-- The first reshape. -/
def seg0 : HostSeg (Ix := Unit) (Name := ℕ) (U := UR sig nD τ) (Lvl := ℕ) (pcfgs (F := F)) defs₀ 𝒱₀ LL lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (fun c => R c)
/-- The last four reshapes. -/
def seg4 : HostSeg (Ix := Unit) (Name := ℕ) (U := UR sig nD τ) (Lvl := ℕ) (pcfgs (F := F)) defs₀ 𝒱₀ LL lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) (fun c => R c)

/-- @main as the list of the five items. -/
abbrev segs : List (Seg (pcfgs (F := F)) adm (pdats m) () defs₀ 𝒱₀ LL lv) :=
  [.host (seg0 m), .region (reg0 m), .region (reg1 m), .region (reg2 m), .host (seg4 m)]

theorem held_eq (c : Dev nD) (W : Valuation τ sig (Elt F)) :
    (StableHlo.held (c : Thread nD τ) (Pipeline.ucRefs τ sig) W : sProp 𝕄) = unscopedBufs c (fun b => W b) :=
  (Pipeline.unscopedBufs_held c W).symm

/-- The buffers read at the end are among the unscoped ones. -/
theorem mem_arg0 : (Proc.devRef .tc main_arg0 : DevRef τ sig) ∈ Pipeline.ucRefs τ sig := Finset.mem_filter.mpr ⟨StableHlo.devRef_mem_tcRefs main_arg0, by decide⟩
theorem mem_arg1 : (Proc.devRef .tc main_arg1 : DevRef τ sig) ∈ Pipeline.ucRefs τ sig := Finset.mem_filter.mpr ⟨StableHlo.devRef_mem_tcRefs main_arg1, by decide⟩
theorem mem_v4 : (Proc.devRef .tc main_v4 : DevRef τ sig) ∈ Pipeline.ucRefs τ sig := Finset.mem_filter.mpr ⟨StableHlo.devRef_mem_tcRefs main_v4, by decide⟩
theorem mem_v21 : (Proc.devRef .tc main_v2_1 : DevRef τ sig) ∈ Pipeline.ucRefs τ sig := Finset.mem_filter.mpr ⟨StableHlo.devRef_mem_tcRefs main_v2_1, by decide⟩
theorem mem_v5 : (Proc.devRef .tc main_v5 : DevRef τ sig) ∈ Pipeline.ucRefs τ sig := Finset.mem_filter.mpr ⟨StableHlo.devRef_mem_tcRefs main_v5, by decide⟩
theorem mem_v6 : (Proc.devRef .tc main_v6 : DevRef τ sig) ∈ Pipeline.ucRefs τ sig := Finset.mem_filter.mpr ⟨StableHlo.devRef_mem_tcRefs main_v6, by decide⟩
theorem mem_v7 : (Proc.devRef .tc main_v7 : DevRef τ sig) ∈ Pipeline.ucRefs τ sig := Finset.mem_filter.mpr ⟨StableHlo.devRef_mem_tcRefs main_v7, by decide⟩

set_option backward.isDefEq.respectTransparency.types false in
/-- Every weakly fair execution of @main from memory `m` with zero counters terminates, and every final state holds in
    every unscoped buffer what `W5` says and has every semaphore counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = W5 m c b) ∧ r.2.sem = fun _ => 0) := by
  refine Pipeline.θ_run_regions_kit_sems (pcfgs (F := F)) adm (pdats m) () cellOf_inj emb₁ defs₀ 𝒱₀ LL lv m ρ main (segs m)
    (fun c Q => by rw [main_segs adm (pdats m) () 𝒱₀ LL lv (seg0 m) (seg4 m) (reg0 m) (reg1 m) (reg2 m) rfl rfl c])
    (by simp only [Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W5 m c)))
    (hch := ⟨fun _ => .rfl, fun c => sep_mono (Entails.of_eq (held_eq c (W1 m c))) .rfl, fun _ => .rfl, fun _ => .rfl,
      fun c => sep_mono (Entails.of_eq (held_eq c (W4 m c)).symm) .rfl, fun _ => .rfl⟩)
    (hinit := by
      refine Pipeline.initEach LL lv fun c => ?_
      rw [show (unscopedBufs c (fun b => m ((c : Thread nD τ).loc b)) : sProp 𝕄) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = W5 m c b)
    (hfin := fun c s' => ?_)
    (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W5 m c) s') $$ [Hh HSI]
  · isplitl [Hh] <;> iassumption
  icases Hr with ⟨%h, HSI⟩
  imodintro
  isplitr
  · ipureintro; exact h
  · iexact HSI

/-- The frame: the arguments end as they started, every counter at zero. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono
    (fun _ h => ⟨fun c => ⟨(h.1 c _ mem_arg0).trans (W5_arg0 m c), (h.1 c _ mem_arg1).trans (W5_arg1 m c)⟩, h.2⟩) (run_main m ρ)

/-- The five results at the end, and the arguments unchanged. -/
theorem run_results (ρ : Dev nD → PrngReg) :
    θ_run defs (onTc (τ := τ) (main (F := F))) ⟨m, fun _ => 0, ρ⟩ (fun r => ∀ c : Dev nD,
      r.2.mem ((c.tc : Thread nD τ).loc main_v4) = W5 m c main_v4
      ∧ r.2.mem ((c.tc : Thread nD τ).loc main_v2_1) = W5 m c main_v2_1
      ∧ r.2.mem ((c.tc : Thread nD τ).loc main_v5) = W5 m c main_v5
      ∧ r.2.mem ((c.tc : Thread nD τ).loc main_v6) = W5 m c main_v6
      ∧ r.2.mem ((c.tc : Thread nD τ).loc main_v7) = W5 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨h.1 c _ mem_v4, h.1 c _ mem_v21, h.1 c _ mem_v5, h.1 c _ mem_v6, h.1 c _ mem_v7,
      (h.1 c _ mem_arg0).trans (W5_arg0 m c), (h.1 c _ mem_arg1).trans (W5_arg1 m c)⟩) (run_main m ρ)

end Cert.KernelIdeal.Run

end
-- ==== Proof.Value.Quant.lean ====
/-
  The quantiser's mathematics on the extended reals, with no program in it.

  A value is quantised by rounding it to the nearest integer and clipping the result to `[-1, 1]` (the weights) or to
  `[-127, 127]` (the activations). What it leaves is an integer that eight bits hold, whatever the value was (an
  infinity too), so that converting it to an eight-bit integer and back changes nothing. `packByte` is the byte made of
  four weights.
-/
module

public import Idealize.ShloMosaic.Lib.Pointwise

@[expose] public section

set_option maxRecDepth 16384

noncomputable section

namespace Cert.Quant

open Idealize.ShloMosaic

/-- `v` rounded to the nearest integer (ties to even), then clipped to `[lo, hi]`. -/
def clip (lo hi : ℤ) (v : EReal) : EReal :=
  min (((hi : ℤ) : ℝ) : EReal) (max (((lo : ℤ) : ℝ) : EReal) (Ideal.liftRound Ideal.roundHalfEven v))

/-- A clipped value is an integer between the two bounds. -/
theorem clip_int (lo hi : ℤ) (h : lo ≤ hi) (v : EReal) : ∃ z : ℤ, lo ≤ z ∧ z ≤ hi ∧ clip lo hi v = ((z : ℝ) : EReal) := by
  unfold clip
  induction v using EReal.rec with
  | bot =>
    refine ⟨lo, le_refl _, h, ?_⟩
    rw [Ideal.liftRound_bot, max_eq_left bot_le, min_eq_right]
    exact_mod_cast h
  | top =>
    refine ⟨hi, h, le_refl _, ?_⟩
    rw [Ideal.liftRound_top, max_eq_right le_top, min_eq_left le_top]
  | coe r =>
    refine ⟨min hi (max lo (Ideal.roundHalfEven r)), ?_, min_le_left _ _, ?_⟩
    · exact le_min h (le_max_left _ _)
    · rw [Ideal.liftRound_coe]
      push_cast
      rfl

/-- An integer that eight bits hold converts to an eight-bit integer exactly. -/
theorem fptosi_int (z : ℤ) (h0 : -128 ≤ z) (h1 : z ≤ 127) : Ideal.fptosi 8 ((z : ℝ) : EReal) = BitVec.ofInt 8 z := by
  unfold Ideal.fptosi
  rw [Ideal.toIntClamped_coe, Int.floor_intCast, Int.ceil_intCast, ite_self]
  congr 1
  norm_num
  omega

/-- … and back. -/
theorem toInt_ofInt (z : ℤ) (h0 : -128 ≤ z) (h1 : z ≤ 127) : (BitVec.ofInt 8 z).toInt = z := by
  rw [BitVec.toInt_ofInt]
  exact Int.bmod_eq_of_le (by norm_num; omega) (by norm_num; omega)

/-- A clipped value survives the round trip through an eight-bit integer. -/
theorem clip_roundtrip (lo hi : ℤ) (h : lo ≤ hi) (h0 : -128 ≤ lo) (h1 : hi ≤ 127) (v : EReal) :
    (((Ideal.fptosi 8 (clip lo hi v)).toInt : ℝ) : EReal) = clip lo hi v := by
  obtain ⟨z, hz0, hz1, e⟩ := clip_int lo hi h v
  rw [e, fptosi_int z (by omega) (by omega), toInt_ofInt z (by omega) (by omega)]

/-- Adding one before the conversion or after it is the same for a weight, and leaves 0, 1 or 2. -/
theorem fptosi_succ (v : EReal) :
    Ideal.fptosi 8 (clip (-1) 1 v + 1) = Ideal.fptosi 8 (clip (-1) 1 v) + 1#8
      ∧ (Ideal.fptosi 8 (clip (-1) 1 v) + 1#8 = 0#8 ∨ Ideal.fptosi 8 (clip (-1) 1 v) + 1#8 = 1#8
        ∨ Ideal.fptosi 8 (clip (-1) 1 v) + 1#8 = 2#8) := by
  obtain ⟨z, hz0, hz1, e⟩ := clip_int (-1) 1 (by norm_num) v
  have e1 : clip (-1) 1 v + 1 = (((z + 1 : ℤ) : ℝ) : EReal) := by
    rw [e]; push_cast; rfl
  rw [e1, e, fptosi_int z (by omega) (by omega), fptosi_int (z + 1) (by omega) (by omega)]
  have : z = -1 ∨ z = 0 ∨ z = 1 := by omega
  rcases this with rfl | rfl | rfl <;> decide

/-- The magnitude of a value. -/
def mag (a : EReal) : EReal := max a (-a)

/-- The greatest magnitude of a row of 1536 activations. -/
def rowMax (f : Fin 1536 → EReal) : EReal :=
  (Finset.univ : Finset (Fin 1536)).fold max (Ideal.ofBits .f32 0xFF800000#32) fun k => mag (f k)

/-- A row's scale: its greatest magnitude over 127, or one where the row is zero. -/
def scale (f : Fin 1536 → EReal) : EReal :=
  if rowMax f = 0 then 1 else Ideal.div (rowMax f) (Ideal.ofBits .f32 0x42FE0000#32)

/-- The weights' scale: the mean of their magnitudes, given the sum. -/
def gammaOf (S : EReal) : EReal := Ideal.div S (Ideal.ofBits .f32 0x4B520000#32)

/-- A weight quantised: -1, 0 or 1. -/
def tern (g w : EReal) : EReal := clip (-1) 1 (Ideal.div w g)

/-- An activation quantised by its row's scale: an integer between -127 and 127. -/
def code (s x : EReal) : EReal := clip (-127) 127 (Ideal.div x s)

/-- A quantised weight as an eight-bit integer, plus one. -/
def tritOf (g w : EReal) : BitVec 8 := Ideal.fptosi 8 (tern g w) + 1#8

/-- Four weights in one byte: each plus one, two bits apiece, the first lowest. -/
def packByte (f0 f1 f2 f3 : BitVec 8) : BitVec 8 :=
  f0 ||| f1 <<< 2 ||| f2 <<< 4 ||| f3 <<< 6

/-- The same byte made of one 32-bit word whose four bytes are 0, 1 or 2: the word or-ed with itself shifted right by 6,
    12 and 18, its low eight bits. -/
theorem packWord (f0 f1 f2 f3 : BitVec 8) (h0 : f0 = 0#8 ∨ f0 = 1#8 ∨ f0 = 2#8) (h1 : f1 = 0#8 ∨ f1 = 1#8 ∨ f1 = 2#8)
    (h2 : f2 = 0#8 ∨ f2 = 1#8 ∨ f2 = 2#8) (h3 : f3 = 0#8 ∨ f3 = 1#8 ∨ f3 = 2#8) :
    BitVec.setWidth 8 (((((f3 ++ f2 ++ f1 ++ f0 : BitVec 32) ||| (f3 ++ f2 ++ f1 ++ f0 : BitVec 32).sshiftRight 6)
      ||| (f3 ++ f2 ++ f1 ++ f0 : BitVec 32).sshiftRight 12) ||| (f3 ++ f2 ++ f1 ++ f0 : BitVec 32).sshiftRight 18) &&& 255#32)
      = packByte f0 f1 f2 f3 := by
  rcases h0 with rfl | rfl | rfl <;> rcases h1 with rfl | rfl | rfl <;> rcases h2 with rfl | rfl | rfl <;>
    rcases h3 with rfl | rfl | rfl <;> decide

/-- A 32-bit word is its four bytes, one after the other. -/
theorem word_of_bytes (v : BitVec 32) (f0 f1 f2 f3 : BitVec 8)
    (h : ∀ q, q < 32 → v.getLsbD q = (if q / 8 = 0 then f0 else if q / 8 = 1 then f1 else if q / 8 = 2 then f2 else f3).getLsbD (q % 8)) :
    v = (f3 ++ f2 ++ f1 ++ f0 : BitVec 32) := by
  apply BitVec.eq_of_getLsbD_eq
  intro q hq
  rw [h q hq]
  simp only [BitVec.getLsbD_append]
  have : q / 8 = 0 ∨ q / 8 = 1 ∨ q / 8 = 2 ∨ q / 8 = 3 := by omega
  rcases this with e | e | e | e <;> simp only [e, ↓reduceIte, Nat.reduceEqDiff] <;> split_ifs <;> first | omega | (congr 1; omega)

end Cert.Quant
-- ==== Proof.Value.Spec.lean ====
/-
  The five results as plain mathematics on the extended reals: functions of the activations `x` (24 × 1024 rows of 1536)
  and of the weights `w` (8960 rows of 1536). Nothing here mentions a program.
-/
module

public import proofs.«01_k».proof.Proof.Value.Quant

@[expose] public section

noncomputable section

namespace Cert.Spec

open Cert.Quant

/-- The activations. -/
abbrev Acts : Type := Fin 24 → Fin 1024 → Fin 1536 → EReal
/-- The weights. -/
abbrev Weights : Type := Fin 8960 → Fin 1536 → EReal

variable (x : Acts) (w : Weights)

/-- The mean magnitude of the weights. -/
def mean : EReal := gammaOf (∑ o : Fin 8960, ∑ k : Fin 1536, mag (w o k))

/-- The scale of an activation row. -/
def rowScale (b : Fin 24) (r : Fin 1024) : EReal := scale fun k => x b r k

/-- The product of the activations' codes with the quantised weights, times the row's scale and the mean. -/
def product (b : Fin 24) (r : Fin 1024) (o : Fin 8960) : EReal :=
  (∑ k : Fin 1536, code (rowScale x b r) (x b r k) * tern (mean w) (w o k)) * rowScale x b r * mean w

/-- Four quantised weights in one byte. -/
def packed (o : Fin 8960) (l : Fin 384) : BitVec 8 :=
  packByte (tritOf (mean w) (w o ⟨4 * l.val, by omega⟩)) (tritOf (mean w) (w o ⟨4 * l.val + 1, by omega⟩))
    (tritOf (mean w) (w o ⟨4 * l.val + 2, by omega⟩)) (tritOf (mean w) (w o ⟨4 * l.val + 3, by omega⟩))

/-- The code of an activation, as a byte. -/
def codeByte (b : Fin 24) (r : Fin 1024) (k : Fin 1536) : BitVec 8 := Idealize.ShloMosaic.Ideal.fptosi 8 (code (rowScale x b r) (x b r k))

end Cert.Spec
-- ==== Proof.Value.KernelPay.lean ====
/-
  What the kernel's three bodies store, at an index, on the extended reals: the generated payloads read down to the
  quantiser's functions of Quant.lean.
-/
module

public import proofs.«01_k».proof.Proof.Gen.KernelIdeal.Skeleton
public import proofs.«01_k».proof.Proof.Value.Quant
public import Idealize.ShloMosaic.Lib.BitcastFour
public import Idealize.ShloMosaic.Lib.Pointwise.IndexBridge

@[expose] public section

set_option maxRecDepth 16384

noncomputable section

namespace Cert.KernelIdeal.Pay

open Cert.KernelIdeal Cert.KernelIdeal.Gen Cert.Quant
open Idealize.ShloMosaic

/-! ## The mean of the magnitudes -/

theorem sum_apply x v6 (r : Fin 8) (c : Fin 1536) :
    k0_pay2 (F := Ideal) x v6 (ix2 r c) = v6 (ix2 r c) + ∑ k : Fin 32, mag (x (ix2 ⟨k.val * 8 + r.val, by omega⟩ c)) := by
  pointwise [Gen.k0_pay2]
  rfl

theorem zero_apply (r : Fin 8) (c : Fin 1536) : k0_pay1 (F := Ideal) (ix2 r c) = (0 : EReal) := by
  pointwise [Gen.k0_pay1]

theorem mean_eq x : k0_pay3 (F := Ideal) x = gammaOf (∑ r : Fin 8, ∑ c : Fin 1536, x (ix2 r c)) := by
  pointwise [Gen.k0_pay3]
  rfl

/-! ## The weights -/

theorem tern_apply g x (r : Fin 1536) (c : Fin 256) : k1_pay1 (F := Ideal) g x (ix2 r c) = tern g (x (ix2 c r)) := by
  pointwise [Gen.k1_pay1]
  rfl

/-- The weights plus one, as eight-bit integers: the bytes that are packed. -/
def bytes (g : Elt Ideal .f32) (x : Vec Ideal S256x1536 .bf16) : IVec S1536x256 8 :=
  fptosi 8 (extf (F := Ideal) .f32 (addf (k1_pay1 (F := Ideal) g x) (broadcast S1536x256 (Scalar.ofBits .bf16 0x3F80#16))) bitsLt_bf16_f32)

theorem bytes_apply g x (r : Fin 1536) (c : Fin 256) : bytes g x (ix2 r c) = tritOf g (x (ix2 c r)) := by
  have e : bytes g x (ix2 r c) = Ideal.fptosi 8 (k1_pay1 (F := Ideal) g x (ix2 r c) + Ideal.ofBits .bf16 0x3F80#16) := rfl
  rw [e, Ideal.ofBits_one_bf16, tern_apply]
  exact (fptosi_succ _).1

theorem packed_apply g x (r : Fin 256) (l : Fin 384) :
    k1_pay2 (F := Ideal) g x (ix2 r l) = packByte (tritOf g (x (ix2 r ⟨4 * l.val, by omega⟩))) (tritOf g (x (ix2 r ⟨4 * l.val + 1, by omega⟩)))
      (tritOf g (x (ix2 r ⟨4 * l.val + 2, by omega⟩))) (tritOf g (x (ix2 r ⟨4 * l.val + 3, by omega⟩))) := by
  have hv : bitcast S384x256 32 (bytes g x) bitcasts_S1536x256_w8_S384x256_w32 (ix2 l r)
      = (tritOf g (x (ix2 r ⟨4 * l.val + 3, by omega⟩)) ++ tritOf g (x (ix2 r ⟨4 * l.val + 2, by omega⟩))
        ++ tritOf g (x (ix2 r ⟨4 * l.val + 1, by omega⟩)) ++ tritOf g (x (ix2 r ⟨4 * l.val, by omega⟩)) : BitVec 32) := by
    apply word_of_bytes
    intro q hq
    have hp : 4 * l.val + q / 8 < 1536 := by omega
    have hb := bitcast_8_32_getLsbD_ix2 (bytes g x) bitcasts_S1536x256_w8_S384x256_w32 l r q hq ⟨4 * l.val + q / 8, hp⟩ rfl
    simp only [← ix2_eq_valueIdx] at hb
    rw [hb, bytes_apply]
    have : q / 8 = 0 ∨ q / 8 = 1 ∨ q / 8 = 2 ∨ q / 8 = 3 := by omega
    rcases this with e | e | e | e <;> simp only [e, ↓reduceIte, Nat.reduceEqDiff, Nat.add_zero, OfNat.ofNat_ne_zero, one_ne_zero]
  have e : k1_pay2 (F := Ideal) g x (ix2 r l)
      = BitVec.setWidth 8 (IntOp.andi (IntOp.ori (IntOp.ori (IntOp.ori
          (bitcast S384x256 32 (bytes g x) bitcasts_S1536x256_w8_S384x256_w32 (ix2 l r))
          (IntOp.shrsi .vector (bitcast S384x256 32 (bytes g x) bitcasts_S1536x256_w8_S384x256_w32 (ix2 l r)) 6#32))
          (IntOp.shrsi .vector (bitcast S384x256 32 (bytes g x) bitcasts_S1536x256_w8_S384x256_w32 (ix2 l r)) 12#32))
          (IntOp.shrsi .vector (bitcast S384x256 32 (bytes g x) bitcasts_S1536x256_w8_S384x256_w32 (ix2 l r)) 18#32)) 255#32) := by
    have hb : bytes g x = fptosi 8 (extf (F := Ideal) .f32 (addf (k1_pay1 (F := Ideal) g x) (broadcast S1536x256 (Scalar.ofBits .bf16 0x3F80#16))) bitsLt_bf16_f32) := rfl
    unfold k1_pay2
    dsimp only
    rw [← hb]
    generalize bitcast S384x256 32 (bytes g x) bitcasts_S1536x256_w8_S384x256_w32 = v
    pointwise
  rw [e, hv]
  exact packWord _ _ _ _ (fptosi_succ _).2 (fptosi_succ _).2 (fptosi_succ _).2 (fptosi_succ _).2

/-! ## The activations -/

theorem ext_eq x : k2_pay7 (F := Ideal) x = x := by
  unfold k2_pay7
  exact congrArg (fun y => extf (F := Ideal) .f32 y bitsLt_bf16_f32) (shapeCast_id x _)

/-- The greatest magnitudes of a block's rows, as a column. -/
def maxes (y : FVec Ideal S1024x1536 .f32) : FVec Ideal S1024x1 .f32 :=
  shapeCast S1024x1 (multiReduction .maximumf [1] S1024 (absf y) 0xFF800000#32 reduces_S1024x1536_S1024 (.inl rfl) rfl) shapeCasts_S1024_S1024x1

theorem cast_col (v : FVec Ideal S1024 .f32) (r : Fin 1024) (c : Fin 1) : shapeCast S1024x1 v shapeCasts_S1024_S1024x1 (ix2 r c) = v (ix1 r) := by
  pointwise

theorem max_row (y : FVec Ideal S1024x1536 .f32) (r : Fin 1024) :
    multiReduction .maximumf [1] S1024 y 0xFF800000#32 reduces_S1024x1536_S1024 (.inl rfl) rfl (ix1 r)
      = (Finset.univ : Finset (Fin 1536)).fold max (Ideal.ofBits .f32 0xFF800000#32) fun k => y (ix2 r k) := by
  pointwise

theorem maxes_apply (y : FVec Ideal S1024x1536 .f32) (r : Fin 1024) (c : Fin 1) : maxes y (ix2 r c) = rowMax fun k => y (ix2 r k) :=
  (cast_col _ r c).trans ((max_row (absf y) r).trans rfl)

theorem choose_apply (A : FVec Ideal S1024x1 .f32) (r : Fin 1024) (c : Fin 1) :
    select (cmpf .oeq A (broadcast S1024x1 (Scalar.ofBits .f32 0x00000000#32))) (broadcast S1024x1 (Scalar.ofBits .f32 0x3F800000#32))
      (divf A (broadcast S1024x1 (Scalar.ofBits .f32 0x42FE0000#32))) (ix2 r c)
      = if A (ix2 r c) = 0 then (1 : EReal) else Ideal.div (A (ix2 r c)) (Ideal.ofBits .f32 0x42FE0000#32) := by
  pointwise

theorem scale_apply x (r : Fin 1024) (c : Fin 1) : k2_pay8 (F := Ideal) x (ix2 r c) = scale fun k => x (ix2 r k) := by
  have e : k2_pay8 (F := Ideal) x = select (cmpf .oeq (maxes x) (broadcast S1024x1 (Scalar.ofBits .f32 0x00000000#32))) (broadcast S1024x1 (Scalar.ofBits .f32 0x3F800000#32))
      (divf (maxes x) (broadcast S1024x1 (Scalar.ofBits .f32 0x42FE0000#32))) := by
    unfold k2_pay8
    rw [ext_eq]
    rfl
  rw [e, choose_apply, maxes_apply]
  rfl

theorem bcast_row (A : FVec Ideal S1024x1 .f32) (r : Fin 1024) (c : Fin 1536) :
    broadcastTo S1024x1536 A broadcasts_S1024x1_S1024x1536 (ix2 r c) = A (ix2 r 0) := by
  pointwise

theorem clip_apply (A : FVec Ideal S1024x1536 .f32) (j : S1024x1536.Idx) :
    minimumf (broadcast S1024x1536 (Scalar.sitofp .f32 127#32)) (maximumf (broadcast S1024x1536 (Scalar.sitofp .f32 4294967169#32)) (roundeven A)) j
      = clip (-127) 127 (A j) := rfl

theorem div_apply (A B : FVec Ideal S1024x1536 .f32) (j : S1024x1536.Idx) : divf A B j = Ideal.div (A j) (B j) := rfl

theorem code_apply x (r : Fin 1024) (c : Fin 1536) :
    k2_pay9 (F := Ideal) x (ix2 r c) = code (scale fun k => x (ix2 r k)) (x (ix2 r c)) := by
  have e : k2_pay9 (F := Ideal) x = minimumf (broadcast S1024x1536 (Scalar.sitofp .f32 127#32)) (maximumf (broadcast S1024x1536 (Scalar.sitofp .f32 4294967169#32))
      (roundeven (divf (k2_pay7 (F := Ideal) x) (broadcastTo S1024x1536 (k2_pay8 (F := Ideal) x) broadcasts_S1024x1_S1024x1536)))) := by
    unfold k2_pay9
    rfl
  rw [e, clip_apply, ext_eq, div_apply x, bcast_row, scale_apply]
  rfl

theorem codes_apply x (r : Fin 1024) (c : Fin 1536) :
    k2_pay10 (F := Ideal) x (ix2 r c) = Ideal.fptosi 8 (code (scale fun k => x (ix2 r k)) (x (ix2 r c))) := by
  rw [← code_apply]
  rfl

theorem lhs_apply x (r : Fin 1024) (c : Fin 1536) :
    k2_pay11 (F := Ideal) x (ix2 r c) = code (scale fun k => x (ix2 r k)) (x (ix2 r c)) := by
  rw [← code_apply]
  unfold k2_pay11
  rw [shapeCast_id]
  rfl

theorem spread_apply x (r : Fin 1024) (c : Fin 128) : k2_pay12 (F := Ideal) x (ix2 r c) = scale fun k => x (ix2 r k) := by
  pointwise [Gen.k2_pay12]
  exact scale_apply x r 0

/-! ## The product -/

theorem dot_apply a b (r : Fin 1024) (c : Fin 1280) :
    k2_pay13 (F := Ideal) a b (ix2 r c) = ∑ k : Fin 1536, (a (ix2 r k) : EReal) * b (ix2 k c) := by
  pointwise [Gen.k2_pay13]

end Cert.KernelIdeal.Pay
-- ==== Proof.Value.GammaArr.lean ====
/-
  What the first launch leaves in its one-word array, on the extended reals: the mean magnitude of the weights it finds.
-/
module

public import proofs.«01_k».proof.Proof.KernelIdeal.Gamma
public import proofs.«01_k».proof.Proof.Value.KernelPay
public import Idealize.ShloMosaic.Lib.Pipeline.ValueKit

@[expose] public section

set_option maxRecDepth 16384

noncomputable section

namespace Cert.KernelIdeal.GammaArr

open Cert.KernelIdeal Cert.KernelIdeal.Gen Cert.KernelIdeal.Gamma Cert.KernelIdeal.Pay Cert.Quant
open Idealize.ShloMosaic Idealize.ShloMosaic.TcCoe

/-! ## The sum, block by block -/

/-- A sum over 8960 rows taken 256 at a time, and those eight at a time. -/
theorem sum_rows (f : ℕ → EReal) :
    ∑ r : Fin 8, ∑ t : Fin 35, ∑ k : Fin 32, f (t.val * 256 + (k.val * 8 + r.val)) = ∑ o : Fin 8960, f o.val := by
  have split : ∀ (A B : ℕ) (g : ℕ → EReal), ∑ o : Fin (A * B), g o.val = ∑ a : Fin A, ∑ b : Fin B, g (a.val * B + b.val) := by
    intro A B g
    rw [← Fintype.sum_prod_type', ← finProdFinEquiv.sum_comp]
    refine Finset.sum_congr rfl fun p _ => ?_
    rw [finProdFinEquiv_apply_val, Nat.mul_comm B, Nat.add_comm]
  have e1 := split 35 256 f
  have e2 : ∀ t : Fin 35, ∑ b : Fin 256, f (t.val * 256 + b.val) = ∑ k : Fin 32, ∑ r : Fin 8, f (t.val * 256 + (k.val * 8 + r.val)) :=
    fun t => split 32 8 fun b => f (t.val * 256 + b)
  rw [show (∑ o : Fin 8960, f o.val) = _ from e1, Finset.sum_congr rfl fun t _ => e2 t, Finset.sum_comm]
  refine Finset.sum_congr rfl fun t _ => ?_
  exact Finset.sum_comm

variable (V : Entry Ideal) (c : Dev nD)

theorem idx (t : Fin cfg0.N) : win0_0.index t = ![t.val, 0] ∧ win0_1.index t = ![0, 0] :=
  (by decide +kernel : ∀ t : Fin grid0.N, win0_0.index t = ![t.val, 0] ∧ win0_1.index t = ![0, 0]) t

/-- The magnitude of weight `(r, k)`, zero past the last row. -/
def magAt (w : Vec Ideal S8960x1536 .bf16) (k : Fin 1536) (r : ℕ) : EReal := if h : r < 8960 then mag (w (ix2 ⟨r, h⟩ k)) else 0

theorem weights_eq (t : Fin cfg0.N) (r : Fin 256) (k : Fin 1536) :
    mag (iblk V c 0 t (ix2 r k)) = magAt (V c main_arg1) k (t.val * 256 + r.val) := by
  have ht : t.val < 35 := Nat.lt_of_lt_of_eq t.isLt N_0
  have h : t.val * 256 + r.val < 8960 := by omega
  rw [magAt, dif_pos h]
  refine congrArg mag ?_
  blk_ext [iblk, idx t]

/-- The accumulator after the first `n + 1` blocks. -/
theorem acc_apply (n : ℕ) (hn : n < cfg0.N) (r : Fin 8) (k : Fin 1536) :
    acc V c n hn (ix2 r k) = ∑ t ∈ Finset.range (n + 1), ∑ b : Fin 32, magAt (V c main_arg1) k (t * 256 + (b.val * 8 + r.val)) := by
  induction n with
  | zero =>
    refine (sum_apply _ _ r k).trans ?_
    rw [zero_apply, zero_add, Finset.sum_range_one]
    exact Finset.sum_congr rfl fun b _ => weights_eq V c ⟨0, hn⟩ ⟨b.val * 8 + r.val, by omega⟩ k
  | succ n ih =>
    refine (sum_apply _ _ r k).trans ?_
    rw [Finset.sum_range_succ, ih]
    exact congrArg (_ + ·) (Finset.sum_congr rfl fun b _ => weights_eq V c ⟨n + 1, hn⟩ ⟨b.val * 8 + r.val, by omega⟩ k)

/-- The mean magnitude of the weights. -/
def gamma (w : Vec Ideal S8960x1536 .bf16) : EReal := gammaOf (∑ o : Fin 8960, ∑ k : Fin 1536, mag (w (ix2 o k)))

theorem mean_acc (hn : 34 < cfg0.N) : k0_pay3 (F := Ideal) (acc V c 34 hn) = gamma (V c main_arg1) := by
  rw [mean_eq, gamma]
  refine congrArg gammaOf ?_
  simp only [acc_apply, Finset.sum_range]
  have swap : ∀ f : Fin 8 → Fin 1536 → EReal, ∑ r, ∑ k, f r k = ∑ k, ∑ r, f r k := fun f => Finset.sum_comm
  have swap' : ∀ f : Fin 8960 → Fin 1536 → EReal, ∑ o, ∑ k, f o k = ∑ k, ∑ o, f o k := fun f => Finset.sum_comm
  rw [swap, swap']
  refine Finset.sum_congr rfl fun k _ => ?_
  refine (sum_rows (magAt (V c main_arg1) k)).trans ?_
  refine Finset.sum_congr rfl fun o _ => ?_
  rw [magAt, dif_pos o.isLt]

/-- What the last point, the one that writes back, stores. -/
theorem after_last (t : Fin cfg0.N) (ht : t.val = 34) : k0_pay3 (F := Ideal) (acc V c t.val t.isLt) = gamma (V c main_arg1) := by
  have key : ∀ (n : ℕ) (hn : n < cfg0.N), n = 34 → k0_pay3 (F := Ideal) (acc V c n hn) = gamma (V c main_arg1) := by
    intro n hn h
    subst h
    exact mean_acc V c hn
  exact key t.val t.isLt ht

theorem arr1 : (dat V c).arrAt 1 cfg0.N = fun _ => gamma (V c main_arg1) := by
  have flush1 : ∀ t : Fin cfg0.N, (cfg0.win 1).flush t = true → t.val = 34 := by decide +kernel
  refine (dat V c).arrAt_eq_of_covers 1 _ (by decide +kernel) fun t hf y => ?_
  blk_simp
  rw [after1]
  exact after_last V c t (flush1 t hf)

end Cert.KernelIdeal.GammaArr
-- ==== Proof.Value.TernaryArr.lean ====
/-
  What the second launch leaves in its two arrays, on the extended reals: every quantised weight, transposed, and every
  packed byte, as functions of the mean magnitude and the weights that it finds.
-/
module

public import proofs.«01_k».proof.Proof.KernelIdeal.Ternary
public import proofs.«01_k».proof.Proof.Value.KernelPay
public import Idealize.ShloMosaic.Lib.Pipeline.ValueKit

@[expose] public section

set_option maxRecDepth 16384

noncomputable section

namespace Cert.KernelIdeal.TernaryArr

open Cert.KernelIdeal Cert.KernelIdeal.Gen Cert.KernelIdeal.Ternary Cert.KernelIdeal.Pay Cert.Quant
open Idealize.ShloMosaic Idealize.ShloMosaic.TcCoe

variable (V : Entry Ideal) (c : Dev nD)

/-- Where each window's block lies at point `t`. -/
theorem idx (t : Fin cfg1.N) : win1_0.index t = ![0, 0] ∧ win1_1.index t = ![t.val, 0] ∧ win1_2.index t = ![0, t.val] ∧ win1_3.index t = ![t.val, 0] :=
  (by decide +kernel : ∀ t : Fin grid1.N, win1_0.index t = ![0, 0] ∧ win1_1.index t = ![t.val, 0] ∧ win1_2.index t = ![0, t.val] ∧ win1_3.index t = ![t.val, 0]) t

/-- The quantised weights, transposed. -/
def ternArr (g : EReal) (w : Vec Ideal S8960x1536 .bf16) : Vec Ideal S1536x8960 .bf16 :=
  fun i => tern g (w (ix2 (i 1) (i 0)))

/-- The packed bytes. -/
def packArr (g : EReal) (w : Vec Ideal S8960x1536 .bf16) : Vec Ideal S8960x384 .i8 :=
  fun i => packByte (tritOf g (w (ix2 (i 0) ⟨4 * (i 1).val, by have h : (i 1).val < 384 := (i 1).isLt; omega⟩)))
    (tritOf g (w (ix2 (i 0) ⟨4 * (i 1).val + 1, by have h : (i 1).val < 384 := (i 1).isLt; omega⟩)))
    (tritOf g (w (ix2 (i 0) ⟨4 * (i 1).val + 2, by have h : (i 1).val < 384 := (i 1).isLt; omega⟩)))
    (tritOf g (w (ix2 (i 0) ⟨4 * (i 1).val + 3, by have h : (i 1).val < 384 := (i 1).isLt; omega⟩)))

/-- The mean magnitude, as every point reads it. -/
theorem word_eq (t : Fin cfg1.N) : word (F := Ideal) (iblk V c 0 t) = V c main_v1 (ix2 0 0) := by
  unfold word
  blk_ext [iblk, idx t]

theorem weights_eq (t : Fin cfg1.N) (r : Fin 256) (k : Fin 1536) (o : Fin 8960) (ho : o.val = t.val * 256 + r.val) :
    iblk V c 1 t (ix2 r k) = V c main_arg1 (ix2 o k) := by
  blk_ext [iblk, idx t]

theorem arr2 : (dat V c).arrAt 2 cfg1.N = ternArr (V c main_v1 (ix2 0 0)) (V c main_arg1) := by
  refine (dat V c).arrAt_eq_of_covers 2 _ (by decide +kernel) fun t hf y => ?_
  blk_simp
  rw [after2]
  obtain ⟨a, b, rfl⟩ : ∃ (a : Fin 1536) (b : Fin 256), y = ix2 a b := ⟨y 0, y 1, eq_ix2 y⟩
  rw [tern_apply, word_eq]
  refine congrArg (tern _) ?_
  blk_ext [iblk, idx t]

theorem arr3 : (dat V c).arrAt 3 cfg1.N = packArr (V c main_v1 (ix2 0 0)) (V c main_arg1) := by
  refine (dat V c).arrAt_eq_of_covers 3 _ (by decide +kernel) fun t hf y => ?_
  blk_simp
  rw [after3]
  obtain ⟨a, b, rfl⟩ : ∃ (a : Fin 256) (b : Fin 384), y = ix2 a b := ⟨y 0, y 1, eq_ix2 y⟩
  rw [packed_apply, word_eq]
  unfold packArr
  congr 2 <;> blk_ext [iblk, idx t]

end Cert.KernelIdeal.TernaryArr
-- ==== Proof.Value.MatmulBlock.lean ====
/-
  The block of the product that the third kernel's body leaves, at an index, on the extended reals: the ten slabs it
  stores are one array, the integer product times the row's scale times the weights' scale.
-/
module

public import proofs.«01_k».proof.Proof.KernelIdeal.Matmul
public import proofs.«01_k».proof.Proof.Value.KernelPay
public import Idealize.ShloMosaic.Lib.Pipeline.ValueKit

@[expose] public section

set_option maxRecDepth 16384

noncomputable section

namespace Cert.KernelIdeal.Block

open Cert.KernelIdeal Cert.KernelIdeal.Gen Cert.KernelIdeal.Matmul Cert.KernelIdeal.Pay Cert.Quant
open Idealize.ShloMosaic

/-- One element of a slab, the slab beginning at column `o`. -/
theorem slab_apply (P : FVec Ideal S1024x1280 .f32) (s : Vec Ideal S1024x128 .f32) (g : Elt Ideal .f32) (r : Fin 1024) (l : Fin 128) :
    k2_pay6 (F := Ideal) P s g (ix2 r l) = P (ix2 r ⟨1152 + l.val, by omega⟩) * s (ix2 r l) * g
    ∧ k2_pay5 (F := Ideal) P s g (ix2 r l) = P (ix2 r ⟨1024 + l.val, by omega⟩) * s (ix2 r l) * g
    ∧ k2_pay4 (F := Ideal) P s g (ix2 r l) = P (ix2 r ⟨896 + l.val, by omega⟩) * s (ix2 r l) * g
    ∧ k2_pay3 (F := Ideal) P s g (ix2 r l) = P (ix2 r ⟨768 + l.val, by omega⟩) * s (ix2 r l) * g
    ∧ k2_pay2 (F := Ideal) P s g (ix2 r l) = P (ix2 r ⟨640 + l.val, by omega⟩) * s (ix2 r l) * g := by
  refine ⟨?_, ?_, ?_, ?_, ?_⟩
  · pointwise [Gen.k2_pay6]
  · pointwise [Gen.k2_pay5]
  · pointwise [Gen.k2_pay4]
  · pointwise [Gen.k2_pay3]
  · pointwise [Gen.k2_pay2]

theorem slab_apply' (a : Vec Ideal S1024x1536 .bf16) (b : Vec Ideal S1536x1280 .bf16) (s : Vec Ideal S1024x128 .f32) (g : Elt Ideal .f32) (r : Fin 1024) (l : Fin 128) :
    k2_pay1 (F := Ideal) s g (k2_pay18 a b) (ix2 r l) = k2_pay13 (F := Ideal) a b (ix2 r ⟨512 + l.val, by omega⟩) * s (ix2 r l) * g
    ∧ k2_pay17 (F := Ideal) a b s g (ix2 r l) = k2_pay13 (F := Ideal) a b (ix2 r ⟨384 + l.val, by omega⟩) * s (ix2 r l) * g
    ∧ k2_pay16 (F := Ideal) a b s g (ix2 r l) = k2_pay13 (F := Ideal) a b (ix2 r ⟨256 + l.val, by omega⟩) * s (ix2 r l) * g
    ∧ k2_pay15 (F := Ideal) a b s g (ix2 r l) = k2_pay13 (F := Ideal) a b (ix2 r ⟨128 + l.val, by omega⟩) * s (ix2 r l) * g
    ∧ k2_pay14 (F := Ideal) a b s g (ix2 r l) = k2_pay13 (F := Ideal) a b (ix2 r ⟨l.val, by omega⟩) * s (ix2 r l) * g := by
  refine ⟨?_, ?_, ?_, ?_, ?_⟩
  · pointwise [Gen.k2_pay1, Gen.k2_pay18]
  · pointwise [Gen.k2_pay17]
  · pointwise [Gen.k2_pay16]
  · pointwise [Gen.k2_pay15]
  · pointwise [Gen.k2_pay14]

/-- A slab's element is the whole block's at the slab's place. -/
theorem place (P : FVec Ideal S1024x1280 .f32) (s : Vec Ideal S1024x128 .f32) (g : Elt Ideal .f32)
    (S : Fin 1024 → EReal) (hs : ∀ r l, s (ix2 r l) = S r) (v : FVec Ideal S1024x128 .bf16) (o : ℕ) (ho : o + 128 ≤ 1280)
    (hv : ∀ (r : Fin 1024) (l : Fin 128), v (ix2 r l) = P (ix2 r ⟨o + l.val, by omega⟩) * s (ix2 r l) * g)
    (r : Fin 1024) (c : Fin 1280) (x : S1024x128.Idx) (h0 : r.val = (x 0).val) (h1 : c.val = o + (x 1).val) :
    v x = P (ix2 r c) * S r * g := by
  idx_vars x
  obtain rfl : r = x0 := Fin.ext h0
  have hx : x1.val < 128 := x1.isLt
  have hc : (⟨o + x1.val, by omega⟩ : Fin 1280) = c := Fin.ext h1.symm
  rw [hv, hs, hc]

/-- The whole block: the product's element times its row's scale (any of the 128 equal columns) times the weights' scale. -/
theorem block_apply (a : Vec Ideal S1024x1536 .bf16) (b : Vec Ideal S1536x1280 .bf16) (s : Vec Ideal S1024x128 .f32) (g : Elt Ideal .f32)
    (S : Fin 1024 → EReal) (hs : ∀ r l, s (ix2 r l) = S r) (r : Fin 1024) (c : Fin 1280) :
    mmOut (F := Ideal) a b s g (ix2 r c) = k2_pay13 (F := Ideal) a b (ix2 r c) * S r * g := by
  unfold mmOut mmPieces
  canon_tiles x h
  · exact place _ s g S hs _ 1152 (by decide) (fun r l => (slab_apply _ s g r l).1) r c x h0 h1
  · exact place _ s g S hs _ 1024 (by decide) (fun r l => (slab_apply _ s g r l).2.1) r c x h0 h1
  · exact place _ s g S hs _ 896 (by decide) (fun r l => (slab_apply _ s g r l).2.2.1) r c x h0 h1
  · exact place _ s g S hs _ 768 (by decide) (fun r l => (slab_apply _ s g r l).2.2.2.1) r c x h0 h1
  · exact place _ s g S hs _ 640 (by decide) (fun r l => (slab_apply _ s g r l).2.2.2.2) r c x h0 h1
  · exact place _ s g S hs _ 512 (by decide) (fun r l => (slab_apply' a b s g r l).1) r c x h0 h1
  · exact place _ s g S hs _ 384 (by decide) (fun r l => (slab_apply' a b s g r l).2.1) r c x h0 h1
  · exact place _ s g S hs _ 256 (by decide) (fun r l => (slab_apply' a b s g r l).2.2.1) r c x h0 h1
  · exact place _ s g S hs _ 128 (by decide) (fun r l => (slab_apply' a b s g r l).2.2.2.1) r c x h0 h1
  · exact place _ s g S hs _ 0 (by decide) (fun r l => (slab_apply' a b s g r l).2.2.2.2.trans (by simp only [Nat.zero_add])) r c x h0 (h1.trans (Nat.zero_add _).symm)

end Cert.KernelIdeal.Block
-- ==== Proof.Value.MatmulArr.lean ====
/-
  What the third launch leaves in its three arrays, on the extended reals: the scaled product, the activations' codes and
  their rows' scales, as functions of the mean magnitude, the activations and the transposed quantised weights it finds.
-/
module

public import proofs.«01_k».proof.Proof.Value.MatmulBlock
public import Idealize.ShloMosaic.Lib.Pipeline.Covers

@[expose] public section

set_option maxRecDepth 16384

noncomputable section

namespace Cert.KernelIdeal.MatmulArr

open Cert.KernelIdeal Cert.KernelIdeal.Gen Cert.KernelIdeal.Matmul Cert.KernelIdeal.Pay Cert.KernelIdeal.Block Cert.Quant
open Cert.KernelIdeal.Ternary (word)
open Idealize.ShloMosaic Idealize.ShloMosaic.TcCoe

variable (V : Entry Ideal) (c : Dev nD)

/-- Where each window's block lies at point `t`. -/
theorem idx (t : Fin cfg2.N) : win2_0.index t = ![0, 0] ∧ win2_1.index t = ![t.val / 7, 0] ∧ win2_2.index t = ![0, t.val % 7]
    ∧ win2_3.index t = ![t.val / 7, t.val % 7] ∧ win2_4.index t = ![t.val / 7, 0] ∧ win2_5.index t = ![t.val / 7, 0] :=
  (by decide +kernel : ∀ t : Fin grid2.N, win2_0.index t = ![0, 0] ∧ win2_1.index t = ![t.val / 7, 0] ∧ win2_2.index t = ![0, t.val % 7]
    ∧ win2_3.index t = ![t.val / 7, t.val % 7] ∧ win2_4.index t = ![t.val / 7, 0] ∧ win2_5.index t = ![t.val / 7, 0]) t

/-- The scale of a row of the activations. -/
def rowScale (x : Vec Ideal S24576x1536 .bf16) (R : Fin 24576) : EReal := scale fun k => x (ix2 R k)

/-- The rows' scales. -/
def scaleArr (x : Vec Ideal S24576x1536 .bf16) : Vec Ideal S24576x1 .f32 := fun i => rowScale x (i 0)

/-- The codes. -/
def codeArr (x : Vec Ideal S24576x1536 .bf16) : Vec Ideal S24576x1536 .i8 :=
  fun i => Ideal.fptosi 8 (code (rowScale x (i 0)) (x (ix2 (i 0) (i 1))))

/-- The product, scaled by its row's scale and by the weights'. -/
def prodArr (g : EReal) (x : Vec Ideal S24576x1536 .bf16) (tm : Vec Ideal S1536x8960 .bf16) : Vec Ideal S24576x8960 .bf16 :=
  fun i => (∑ k : Fin 1536, code (rowScale x (i 0)) (x (ix2 (i 0) k)) * tm (ix2 k (i 1))) * rowScale x (i 0) * g

theorem word_eq (t : Fin cfg2.N) : word (F := Ideal) (iblk V c 0 t) = V c main_v1 (ix2 0 0) := by
  unfold word
  blk_ext [iblk, idx t]

theorem acts_eq (t : Fin cfg2.N) (r : Fin 1024) (k : Fin 1536) (R : Fin 24576) (hR : R.val = t.val / 7 * 1024 + r.val) :
    iblk V c 1 t (ix2 r k) = V c main_v0 (ix2 R k) := by
  blk_ext [iblk, idx t]

theorem wts_eq (t : Fin cfg2.N) (k : Fin 1536) (l : Fin 1280) (o : Fin 8960) (ho : o.val = t.val % 7 * 1280 + l.val) :
    iblk V c 2 t (ix2 k l) = V c main_v2_0 (ix2 k o) := by
  blk_ext [iblk, idx t]

/-- A row's scale, from the block. -/
theorem scale_eq (t : Fin cfg2.N) (r : Fin 1024) (R : Fin 24576) (hR : R.val = t.val / 7 * 1024 + r.val) :
    (scale fun k => iblk V c 1 t (ix2 r k)) = rowScale (V c main_v0) R :=
  congrArg scale (funext fun k => acts_eq V c t r k R hR)

/-! ## The blocks cover the arrays -/

/-- The grid point with block row `p` and block column `q`. -/
def pt (p : Fin 24) (q : Fin 7) : grid2.Coords := fun b => match b with | ⟨0, _⟩ => p | ⟨1, _⟩ => q

theorem index3 : ∀ (p : Fin 24) (q : Fin 7), win2_3.indexMap (pt p q) 0 = p.val ∧ win2_3.indexMap (pt p q) 1 = q.val
    ∧ win2_4.indexMap (pt p q) 0 = p.val ∧ win2_4.indexMap (pt p q) 1 = 0 ∧ win2_5.indexMap (pt p q) 0 = p.val ∧ win2_5.indexMap (pt p q) 1 = 0 := by
  decide +kernel

theorem nblk3 : win2_3.nblk 0 = 24 ∧ win2_3.nblk 1 = 7 ∧ win2_4.nblk 0 = 24 ∧ win2_4.nblk 1 = 1 ∧ win2_5.nblk 0 = 24 ∧ win2_5.nblk 1 = 1 := by
  decide +kernel

theorem covers3 : win2_3.Covers :=
  win2_3.covers_of_indexMap_surj rfl (by decide) fun β =>
    ⟨pt ⟨(β 0).val, lt_of_lt_of_eq (β 0).isLt nblk3.1⟩ ⟨(β 1).val, lt_of_lt_of_eq (β 1).isLt nblk3.2.1⟩, fun a => match a with
      | ⟨0, _⟩ => (index3 _ _).1
      | ⟨1, _⟩ => (index3 _ _).2.1⟩

theorem covers4 : win2_4.Covers :=
  win2_4.covers_of_indexMap_surj rfl (by decide) fun β =>
    ⟨pt ⟨(β 0).val, lt_of_lt_of_eq (β 0).isLt nblk3.2.2.1⟩ 0, fun a => match a with
      | ⟨0, _⟩ => (index3 _ _).2.2.1
      | ⟨1, _⟩ => (index3 _ _).2.2.2.1.trans (Nat.lt_one_iff.1 (lt_of_lt_of_eq (β 1).isLt nblk3.2.2.2.1)).symm⟩

theorem covers5 : win2_5.Covers :=
  win2_5.covers_of_indexMap_surj rfl (by decide) fun β =>
    ⟨pt ⟨(β 0).val, lt_of_lt_of_eq (β 0).isLt nblk3.2.2.2.2.1⟩ 0, fun a => match a with
      | ⟨0, _⟩ => (index3 _ _).2.2.2.2.1
      | ⟨1, _⟩ => (index3 _ _).2.2.2.2.2.trans (Nat.lt_one_iff.1 (lt_of_lt_of_eq (β 1).isLt nblk3.2.2.2.2.2)).symm⟩

/-! ## The arrays -/

theorem arr5 : (dat V c).arrAt 5 cfg2.N = scaleArr (V c main_v0) := by
  refine (dat V c).arrAt_eq_of_covers 5 _ covers5 fun t hf y => ?_
  refine (cast_eq _ _).trans ?_
  generalize hA : (dat V c).after 5 t = A
  obtain ⟨a, b, rfl⟩ : ∃ (a : Fin 1024) (b : Fin 1), y = ix2 a b := ⟨y 0, y 1, eq_ix2 y⟩
  show A (ix2 a b) = scaleArr (V c main_v0) ((win2_5.blk t).view.emb (ix2 a b))
  rw [← hA, after5]
  refine (scale_apply _ a b).trans ?_
  exact scale_eq V c t a _ (by blk_simp [idx t])

theorem arr4 : (dat V c).arrAt 4 cfg2.N = codeArr (V c main_v0) := by
  refine (dat V c).arrAt_eq_of_covers 4 _ covers4 fun t hf y => ?_
  refine (cast_eq _ _).trans ?_
  generalize hA : (dat V c).after 4 t = A
  obtain ⟨a, b, rfl⟩ : ∃ (a : Fin 1024) (b : Fin 1536), y = ix2 a b := ⟨y 0, y 1, eq_ix2 y⟩
  show A (ix2 a b) = codeArr (V c main_v0) ((win2_4.blk t).view.emb (ix2 a b))
  rw [← hA, after4]
  refine (codes_apply _ a b).trans ?_
  unfold codeArr
  rw [scale_eq V c t a ((win2_4.blk t).view.emb (ix2 a b) 0) (by blk_simp [idx t])]
  refine congrArg (fun z => Ideal.fptosi 8 (code _ z)) ?_
  blk_ext [iblk, idx t]

theorem arr3 : (dat V c).arrAt 3 cfg2.N = prodArr (V c main_v1 (ix2 0 0)) (V c main_v0) (V c main_v2_0) := by
  refine (dat V c).arrAt_eq_of_covers 3 _ covers3 fun t hf y => ?_
  refine (cast_eq _ _).trans ?_
  generalize hA : (dat V c).after 3 t = A
  obtain ⟨a, b, rfl⟩ : ∃ (a : Fin 1024) (b : Fin 1280), y = ix2 a b := ⟨y 0, y 1, eq_ix2 y⟩
  show A (ix2 a b) = prodArr (V c main_v1 (ix2 0 0)) (V c main_v0) (V c main_v2_0) ((win2_3.blk t).view.emb (ix2 a b))
  rw [← hA, after3]
  refine (block_apply _ _ _ _ (fun r => scale fun k => iblk V c 1 t (ix2 r k)) (fun r l => spread_apply _ r l) a b).trans ?_
  have h0 : ((win2_3.blk t).view.emb (ix2 a b) 0).val = t.val / 7 * 1024 + a.val := by blk_simp [idx t]
  have h1 : ((win2_3.blk t).view.emb (ix2 a b) 1).val = t.val % 7 * 1280 + b.val := by blk_simp [idx t]
  unfold prodArr
  rw [dot_apply, word_eq]
  refine congrArg₂ (fun p q : EReal => p * q * V c main_v1 (ix2 0 0)) ?_ (scale_eq V c t a _ h0)
  refine Finset.sum_congr rfl fun k _ => ?_
  refine congrArg₂ (fun p q : EReal => p * q) ?_ (wts_eq V c t k b _ h1)
  refine (lhs_apply _ a k).trans ?_
  rw [scale_eq V c t a _ h0]
  exact congrArg (code _) (acts_eq V c t a k _ h0)

end Cert.KernelIdeal.MatmulArr
-- ==== Proof.Value.KernelResults.lean ====
/-
  What the kernel's five results hold at the end of its run, on the extended reals: the functions of Spec.lean at the two
  arguments. The three launches' arrays are followed through the reshapes around them.
-/
module

public import proofs.«01_k».proof.Proof.Value.Spec
public import proofs.«01_k».proof.Proof.Value.GammaArr
public import proofs.«01_k».proof.Proof.Value.TernaryArr
public import proofs.«01_k».proof.Proof.Value.MatmulArr
public import proofs.«01_k».proof.Proof.KernelIdeal.Run
public import Idealize.ShloMosaic.Lib.Claim

@[expose] public section

set_option maxRecDepth 16384

noncomputable section

namespace Cert.KernelIdeal.Results

open Cert.KernelIdeal Cert.KernelIdeal.Gen Cert.KernelIdeal.Run Cert.Quant
open Idealize.ShloMosaic Idealize.ShloMosaic.TcCoe

variable (m : (ℓ : Loc nD τ sig) → Buf (Elt Ideal) ℓ) (c : Dev nD)

/-- The activations, as a vector. -/
abbrev argX : Vec Ideal S24x1024x1536 .bf16 := m ((c.tc : Thread nD τ).loc main_arg0)
/-- The weights, as a vector. -/
abbrev argW : Vec Ideal S8960x1536 .bf16 := m ((c.tc : Thread nD τ).loc main_arg1)
/-- The activations, as a function of three numbers. -/
abbrev X : Spec.Acts := fun b r k => argX m c (ix3 b r k)
/-- The weights, as a function of two numbers. -/
abbrev Wt : Spec.Weights := fun o k => argW m c (ix2 o k)

/-! ## The reshapes -/

theorem flat_acts (A : Vec Ideal S24x1024x1536 .bf16) (b : Fin 24) (r : Fin 1024) (k : Fin 1536) :
    shapeCast S24576x1536 A shapeCasts_S24x1024x1536_S24576x1536 (ix2 ⟨b.val * 1024 + r.val, by omega⟩ k) = A (ix3 b r k) := by
  pointwise

theorem cube_prod (A : Vec Ideal S24576x8960 .bf16) (b : Fin 24) (r : Fin 1024) (o : Fin 8960) :
    shapeCast S24x1024x8960 A shapeCasts_S24576x8960_S24x1024x8960 (ix3 b r o) = A (ix2 ⟨b.val * 1024 + r.val, by omega⟩ o) := by
  pointwise

theorem cube_codes (A : Vec Ideal S24576x1536 .i8) (b : Fin 24) (r : Fin 1024) (k : Fin 1536) :
    shapeCast S24x1024x1536 A shapeCasts_S24576x1536_S24x1024x1536 (ix3 b r k) = A (ix2 ⟨b.val * 1024 + r.val, by omega⟩ k) := by
  pointwise

theorem square_scales (A : Vec Ideal S24576x1 .f32) (b : Fin 24) (r : Fin 1024) :
    shapeCast S24x1024 A shapeCasts_S24576x1_S24x1024 (ix2 b r) = A (ix2 ⟨b.val * 1024 + r.val, by omega⟩ 0) := by
  pointwise

/-! ## What the launches find -/

theorem W1_v0 : W1 m c main_v0 = shapeCast S24576x1536 (argX m c) shapeCasts_S24x1024x1536_S24576x1536 := by
  unfold_abbrev_sides
  after_results
  rfl

/-- The flattened activations, as the third launch finds them. -/
theorem E3_v0 : E3 m c main_v0 = shapeCast S24576x1536 (argX m c) shapeCasts_S24x1024x1536_S24576x1536 :=
  (W3_of m c main_v0 (by decide) (by decide)).trans ((W2_of m c main_v0 (by decide)).trans (W1_v0 m c))

theorem E1_arg1 : E1 m c main_arg1 = argW m c := (W1_of m c main_arg1 (by decide)).trans rfl
theorem E2_arg1 : E2 m c main_arg1 = argW m c := (W2_of m c main_arg1 (by decide)).trans (E1_arg1 m c)

/-- The first launch leaves the mean magnitude. -/
theorem out1_eq : out1 m c = fun _ => Spec.mean (Wt m c) := by
  refine (GammaArr.arr1 (E1 m) c).trans ?_
  rw [E1_arg1]
  rfl

theorem E2_v1 : E2 m c main_v1 = fun _ => Spec.mean (Wt m c) := (W2_v1 m c).trans (out1_eq m c)
theorem E3_v1 : E3 m c main_v1 = fun _ => Spec.mean (Wt m c) := (W3_of m c main_v1 (by decide) (by decide)).trans (E2_v1 m c)

/-- The second launch leaves the transposed quantised weights … -/
theorem out20_eq : out20 m c = TernaryArr.ternArr (Spec.mean (Wt m c)) (argW m c) := by
  refine (TernaryArr.arr2 (E2 m) c).trans ?_
  rw [E2_v1, E2_arg1]

/-- … and their bytes. -/
theorem out21_eq : out21 m c = TernaryArr.packArr (Spec.mean (Wt m c)) (argW m c) := by
  refine (TernaryArr.arr3 (E2 m) c).trans ?_
  rw [E2_v1, E2_arg1]

theorem E3_v20 : E3 m c main_v2_0 = TernaryArr.ternArr (Spec.mean (Wt m c)) (argW m c) := (W3_v20 m c).trans (out20_eq m c)

/-- The third launch leaves the rows' scales, … -/
theorem out32_eq : out32 m c = MatmulArr.scaleArr (shapeCast S24576x1536 (argX m c) shapeCasts_S24x1024x1536_S24576x1536) := by
  refine (MatmulArr.arr5 (E3 m) c).trans ?_
  rw [E3_v0]

/-- … the codes … -/
theorem out31_eq : out31 m c = MatmulArr.codeArr (shapeCast S24576x1536 (argX m c) shapeCasts_S24x1024x1536_S24576x1536) := by
  refine (MatmulArr.arr4 (E3 m) c).trans ?_
  rw [E3_v0]

/-- … and the scaled product. -/
theorem out30_eq : out30 m c = MatmulArr.prodArr (Spec.mean (Wt m c)) (shapeCast S24576x1536 (argX m c) shapeCasts_S24x1024x1536_S24576x1536)
    (TernaryArr.ternArr (Spec.mean (Wt m c)) (argW m c)) := by
  refine (MatmulArr.arr3 (E3 m) c).trans ?_
  rw [E3_v0, E3_v1, E3_v20]

/-! ## What the host leaves -/

theorem W5_v4 : W5 m c main_v4 = shapeCast S24x1024x8960 (out30 m c) shapeCasts_S24576x8960_S24x1024x8960 := by
  unfold_abbrev_sides
  after_results
  exact congrArg (fun A => shapeCast S24x1024x8960 A shapeCasts_S24576x8960_S24x1024x8960) (W4_v30 m c)

theorem W5_v5 : W5 m c main_v5 = shapeCast S_ (out1 m c) shapeCasts_S1x1_S_ := by
  unfold_abbrev_sides
  after_results
  exact congrArg (fun A => shapeCast S_ A shapeCasts_S1x1_S_) <|
    (W4_of m c main_v1 (by decide) (by decide) (by decide)).trans ((W3_of m c main_v1 (by decide) (by decide)).trans (W2_v1 m c))

theorem W5_v6 : W5 m c main_v6 = shapeCast S24x1024x1536 (out31 m c) shapeCasts_S24576x1536_S24x1024x1536 := by
  unfold_abbrev_sides
  after_results
  exact congrArg (fun A => shapeCast S24x1024x1536 A shapeCasts_S24576x1536_S24x1024x1536) (W4_v31 m c)

theorem W5_v7 : W5 m c main_v7 = shapeCast S24x1024 (out32 m c) shapeCasts_S24576x1_S24x1024 := by
  unfold_abbrev_sides
  after_results
  exact congrArg (fun A => shapeCast S24x1024 A shapeCasts_S24576x1_S24x1024) (W4_v32 m c)

theorem W5_v21 : W5 m c main_v2_1 = out21 m c :=
  (W5_of m c main_v2_1 (by decide)).trans ((W4_of m c main_v2_1 (by decide) (by decide) (by decide)).trans (W3_v21 m c))

/-! ## The five results -/

theorem row_scale (b : Fin 24) (r : Fin 1024) :
    MatmulArr.rowScale (shapeCast S24576x1536 (argX m c) shapeCasts_S24x1024x1536_S24576x1536) ⟨b.val * 1024 + r.val, by omega⟩ = Spec.rowScale (X m c) b r := by
  unfold MatmulArr.rowScale Spec.rowScale
  exact congrArg scale (funext fun k => flat_acts (argX m c) b r k)

theorem code_at (A : Vec Ideal S24576x1536 .bf16) (R : Fin 24576) (k : Fin 1536) :
    MatmulArr.codeArr A (ix2 R k) = Ideal.fptosi 8 (code (MatmulArr.rowScale A R) (A (ix2 R k))) := rfl

theorem prod_at (g : Ideal .f32) (A : Vec Ideal S24576x1536 .bf16) (T : Vec Ideal S1536x8960 .bf16) (R : Fin 24576) (o : Fin 8960) :
    MatmulArr.prodArr g A T (ix2 R o)
      = (∑ k : Fin 1536, code (MatmulArr.rowScale A R) (A (ix2 R k)) * T (ix2 k o)) * MatmulArr.rowScale A R * g := rfl

/-- The product. -/
theorem res_product (b : Fin 24) (r : Fin 1024) (o : Fin 8960) :
    (W5 m c main_v4 : Vec Ideal S24x1024x8960 .bf16) (ix3 b r o) = Spec.product (X m c) (Wt m c) b r o := by
  rw [W5_v4, cube_prod, out30_eq, prod_at, row_scale]
  refine congrArg (fun S => S * Spec.rowScale (X m c) b r * Spec.mean (Wt m c)) (Finset.sum_congr rfl fun k _ => ?_)
  rw [flat_acts]
  rfl

/-- The packed weights. -/
theorem res_packed (o : Fin 8960) (l : Fin 384) :
    (W5 m c main_v2_1 : Vec Ideal S8960x384 .i8) (ix2 o l) = Spec.packed (Wt m c) o l := by
  rw [W5_v21, out21_eq]
  rfl

/-- The mean magnitude. -/
theorem res_mean : (W5 m c main_v5 : Vec Ideal S_ .f32) = fun _ => Spec.mean (Wt m c) := by
  rw [W5_v5, out1_eq]
  rfl

/-- The codes. -/
theorem res_codes (b : Fin 24) (r : Fin 1024) (k : Fin 1536) :
    (W5 m c main_v6 : Vec Ideal S24x1024x1536 .i8) (ix3 b r k) = Spec.codeByte (X m c) b r k := by
  rw [W5_v6, cube_codes, out31_eq, code_at, row_scale, flat_acts]
  rfl

/-- The rows' scales. -/
theorem res_scales (b : Fin 24) (r : Fin 1024) :
    (W5 m c main_v7 : Vec Ideal S24x1024 .f32) (ix2 b r) = Spec.rowScale (X m c) b r := by
  rw [W5_v7, square_scales, out32_eq]
  exact row_scale m c b r

end Cert.KernelIdeal.Results
-- ==== Proof.Value.ReferencePay.lean ====
/-
  What the reference's body stores, at an index, on the extended reals: the generated payloads read down to the quantiser's
  functions of Quant.lean.
-/
module

public import proofs.«01_k».proof.Proof.Gen.ReferenceIdeal.Skeleton
public import proofs.«01_k».proof.Proof.Value.Quant

@[expose] public section

set_option maxRecDepth 16384

noncomputable section

namespace Cert.ReferenceIdeal.Pay

open Cert.ReferenceIdeal Cert.ReferenceIdeal.Gen Cert.Quant
open Idealize.ShloMosaic

/-! ## The weights -/

theorem gamma_eq w : k0_pay4 (F := Ideal) w = gammaOf (∑ o : Fin 8960, ∑ k : Fin 1536, mag (w (ix2 o k))) := by
  pointwise [Gen.k0_pay4, Gen.k0_pay3]
  rfl

theorem trit_apply w (o : Fin 8960) (k : Fin 1536) :
    k0_pay5 (F := Ideal) w (ix2 o k) = Ideal.fptosi 8 (tern (k0_pay4 (F := Ideal) w) (w (ix2 o k))) := by
  pointwise [Gen.k0_pay5, Gen.k0_pay3]
  rfl

theorem packed_apply t (o : Fin 8960) (l : Fin 384) :
    k0_pay2 t (ix2 o l) = packByte (t (ix2 o ⟨4 * l.val, by omega⟩) + 1#8) (t (ix2 o ⟨4 * l.val + 1, by omega⟩) + 1#8)
      (t (ix2 o ⟨4 * l.val + 2, by omega⟩) + 1#8) (t (ix2 o ⟨4 * l.val + 3, by omega⟩) + 1#8) := by
  pointwise [Gen.k0_pay2]
  simp only [Nat.mul_comm l.val 4]
  rfl

/-! ## The activations -/

/-- The greatest magnitudes of the rows. -/
def maxes (y : FVec Ideal S24x1024x1536 .f32) : FVec Ideal S24x1024 .f32 :=
  multiReduction .maximumf [2] S24x1024 (absf y) 0xFF800000#32 reduces_S24x1024x1536_S24x1024 (.inl rfl) rfl

theorem max_row (y : FVec Ideal S24x1024x1536 .f32) (b : Fin 24) (r : Fin 1024) :
    multiReduction .maximumf [2] S24x1024 y 0xFF800000#32 reduces_S24x1024x1536_S24x1024 (.inl rfl) rfl (ix2 b r)
      = (Finset.univ : Finset (Fin 1536)).fold max (Ideal.ofBits .f32 0xFF800000#32) fun k => y (ix3 b r k) := by
  pointwise

theorem maxes_apply (y : FVec Ideal S24x1024x1536 .f32) (b : Fin 24) (r : Fin 1024) : maxes y (ix2 b r) = rowMax fun k => y (ix3 b r k) :=
  (max_row (absf y) b r).trans rfl

theorem choose_apply (A : FVec Ideal S24x1024 .f32) (b : Fin 24) (r : Fin 1024) :
    select (cmpf .oeq A (broadcast S24x1024 (Scalar.ofBits .f32 0x00000000#32))) (broadcast S24x1024 (Scalar.ofBits .f32 0x3F800000#32))
      (divf A (broadcast S24x1024 (Scalar.ofBits .f32 0x42FE0000#32))) (ix2 b r)
      = if A (ix2 b r) = 0 then (1 : EReal) else Ideal.div (A (ix2 b r)) (Ideal.ofBits .f32 0x42FE0000#32) := by
  pointwise

theorem ext_eq x : k0_pay6 (F := Ideal) x = x := rfl

theorem scale_apply x (b : Fin 24) (r : Fin 1024) : k0_pay7 (F := Ideal) x (ix2 b r) = scale fun k => x (ix3 b r k) := by
  have e : k0_pay7 (F := Ideal) x = select (cmpf .oeq (maxes x) (broadcast S24x1024 (Scalar.ofBits .f32 0x00000000#32))) (broadcast S24x1024 (Scalar.ofBits .f32 0x3F800000#32))
      (divf (maxes x) (broadcast S24x1024 (Scalar.ofBits .f32 0x42FE0000#32))) := by
    unfold k0_pay7
    rw [ext_eq]
    rfl
  rw [e, choose_apply, maxes_apply]
  rfl

theorem cast_col (v : FVec Ideal S24x1024 .f32) (b : Fin 24) (r : Fin 1024) (z : Fin 1) :
    shapeCast S24x1024x1 v shapeCasts_S24x1024_S24x1024x1 (ix3 b r z) = v (ix2 b r) := by
  pointwise

theorem bcast_row (A : FVec Ideal S24x1024x1 .f32) (b : Fin 24) (r : Fin 1024) (k : Fin 1536) :
    broadcastTo S24x1024x1536 A broadcasts_S24x1024x1_S24x1024x1536 (ix3 b r k) = A (ix3 b r 0) := by
  pointwise

theorem bcast_out (A : FVec Ideal S24x1024x1 .f32) (b : Fin 24) (r : Fin 1024) (o : Fin 8960) :
    broadcastTo S24x1024x8960 A broadcasts_S24x1024x1_S24x1024x8960 (ix3 b r o) = A (ix3 b r 0) := by
  pointwise

theorem clip_apply (A : FVec Ideal S24x1024x1536 .f32) (j : S24x1024x1536.Idx) :
    minimumf (broadcast S24x1024x1536 (Scalar.sitofp .f32 127#32)) (maximumf (broadcast S24x1024x1536 (Scalar.sitofp .f32 4294967169#32)) (roundeven A)) j
      = clip (-127) 127 (A j) := rfl

theorem div_apply (A B : FVec Ideal S24x1024x1536 .f32) (j : S24x1024x1536.Idx) : divf A B j = Ideal.div (A j) (B j) := rfl

theorem conv_apply (A : FVec Ideal S24x1024x1536 .f32) (j : S24x1024x1536.Idx) : fptosi 8 A j = Ideal.fptosi 8 (A j) := rfl

theorem codes_apply x (b : Fin 24) (r : Fin 1024) (k : Fin 1536) :
    k0_pay8 (F := Ideal) x (ix3 b r k) = Ideal.fptosi 8 (code (scale fun k => x (ix3 b r k)) (x (ix3 b r k))) := by
  have e : k0_pay8 (F := Ideal) x = fptosi 8 (minimumf (broadcast S24x1024x1536 (Scalar.sitofp .f32 127#32)) (maximumf (broadcast S24x1024x1536 (Scalar.sitofp .f32 4294967169#32))
      (roundeven (divf (k0_pay6 (F := Ideal) x) (broadcastTo S24x1024x1536 (shapeCast S24x1024x1 (k0_pay7 (F := Ideal) x) shapeCasts_S24x1024_S24x1024x1) broadcasts_S24x1024x1_S24x1024x1536))))) := by
    unfold k0_pay8
    rfl
  rw [e, conv_apply, clip_apply, ext_eq, div_apply x, bcast_row, cast_col, scale_apply]
  rfl

theorem spread_apply x (b : Fin 24) (r : Fin 1024) (o : Fin 8960) :
    k0_pay10 (F := Ideal) x (ix3 b r o) = scale fun k => x (ix3 b r k) := by
  have e : k0_pay10 (F := Ideal) x = broadcastTo S24x1024x8960 (shapeCast S24x1024x1 (k0_pay7 (F := Ideal) x) shapeCasts_S24x1024_S24x1024x1) broadcasts_S24x1024x1_S24x1024x8960 := by
    unfold k0_pay10
    rfl
  rw [e, bcast_out, cast_col, scale_apply]

/-! ## The product -/

theorem dot_apply w x (b : Fin 24) (r : Fin 1024) (o : Fin 8960) :
    k0_pay9 (F := Ideal) w x (ix3 b r o)
      = ∑ k : Fin 1536, code (scale fun k => x (ix3 b r k)) (x (ix3 b r k)) * tern (k0_pay4 (F := Ideal) w) (w (ix2 o k)) := by
  have e : k0_pay9 (F := Ideal) w x (ix3 b r o) = ∑ k : Fin 1536, (((k0_pay8 (F := Ideal) x (ix3 b r k)).toInt : ℝ) : EReal) * (((k0_pay5 (F := Ideal) w (ix2 o k)).toInt : ℝ) : EReal) := by
    pointwise [Gen.k0_pay9]
    rfl
  rw [e]
  refine Finset.sum_congr rfl fun k _ => ?_
  rw [codes_apply, trit_apply]
  exact congrArg₂ (· * ·) (clip_roundtrip (-127) 127 (by decide) (by decide) (by decide) _) (clip_roundtrip (-1) 1 (by decide) (by decide) (by decide) _)

theorem prod_apply (g : Ideal .f32) (p s : FVec Ideal S24x1024x8960 .f32) (b : Fin 24) (r : Fin 1024) (o : Fin 8960) :
    k0_pay1 (F := Ideal) g p s (ix3 b r o) = p (ix3 b r o) * s (ix3 b r o) * g := by
  pointwise [Gen.k0_pay1]

end Cert.ReferenceIdeal.Pay
-- ==== Proof.Value.ReferenceArr.lean ====
/-
  What the arrays of the reference's one call hold after it: each is what the body stores, at the two arguments.
-/
module

public import proofs.«01_k».proof.Proof.Gen.ReferenceIdeal.Frame
public import Idealize.ShloMosaic.Lib.Pipeline.ValueKit
public import Idealize.ShloMosaic.Lib.Pipeline.ReadBack

@[expose] public section

set_option maxRecDepth 16384

noncomputable section

namespace Cert.ReferenceIdeal.Arr

open Cert.ReferenceIdeal Cert.ReferenceIdeal.Gen
open Idealize.ShloMosaic Idealize.ShloMosaic.TcCoe

variable (m : (l : Loc nD τ sig) → Buf (Elt Ideal) l) (c : Dev nD)

theorem idx (t : Fin cfg0.N) : win0_0.index t = ![0, 0, 0] ∧ win0_1.index t = ![0, 0] :=
  (by decide +kernel : ∀ t : Fin grid0.N, win0_0.index t = ![0, 0, 0] ∧ win0_1.index t = ![0, 0]) t

/-- The activations' block is the whole argument. -/
theorem blk0 (t : Fin cfg0.N) : iblk m c 0 t = m ((c.tc : Thread nD τ).loc main_arg0) := by
  funext y
  obtain ⟨b, r, k, rfl⟩ : ∃ (b : Fin 24) (r : Fin 1024) (k : Fin 1536), y = ix3 b r k := ⟨y 0, y 1, y 2, eq_ix3 y⟩
  blk_ext [iblk, idx t]

/-- The weights' block is the whole argument. -/
theorem blk1 (t : Fin cfg0.N) : iblk m c 1 t = m ((c.tc : Thread nD τ).loc main_arg1) := by
  funext y
  obtain ⟨o, k, rfl⟩ : ∃ (o : Fin 8960) (k : Fin 1536), y = ix2 o k := ⟨y 0, y 1, eq_ix2 y⟩
  blk_ext [iblk, idx t]

/-- The argument the activations are, as a vector. -/
abbrev argX : Vec Ideal S24x1024x1536 .bf16 := m ((c.tc : Thread nD τ).loc main_arg0)
/-- The argument the weights are, as a vector. -/
abbrev argW : Vec Ideal S8960x1536 .bf16 := m ((c.tc : Thread nD τ).loc main_arg1)

theorem arr6 : (dats m 0 c).arrAt 6 cfg0.N = k0_pay7 (F := Ideal) (argX m c) := by
  refine (dats m 0 c).arrAt_eq_of_after_last 6 t0_0 (by decide +kernel) _ fun j => ?_
  blk_simp
  rw [after0_6, outsAt0]
  frame_out
  simp only [read_unread_whole]
  rw [blk0]

theorem arr5 : (dats m 0 c).arrAt 5 cfg0.N = k0_pay8 (F := Ideal) (argX m c) := by
  refine (dats m 0 c).arrAt_eq_of_after_last 5 t0_0 (by decide +kernel) _ fun j => ?_
  blk_simp
  rw [after0_5, outsAt0]
  frame_out
  simp only [read_unread_whole]
  rw [blk0]

theorem arr4 : (dats m 0 c).arrAt 4 cfg0.N = fun _ => k0_pay4 (F := Ideal) (argW m c) := by
  refine (dats m 0 c).arrAt_eq_of_after_last 4 t0_0 (by decide +kernel) _ fun j => ?_
  blk_simp
  rw [after0_4, outsAt0]
  frame_out
  simp only [read_unread_whole]
  rw [blk1]

theorem arr3 : (dats m 0 c).arrAt 3 cfg0.N = k0_pay2 (k0_pay5 (F := Ideal) (argW m c)) := by
  refine (dats m 0 c).arrAt_eq_of_after_last 3 t0_0 (by decide +kernel) _ fun j => ?_
  blk_simp
  rw [after0_3, outsAt0]
  frame_out
  simp only [read_unread_whole]
  rw [blk1]

theorem arr2 : (dats m 0 c).arrAt 2 cfg0.N = k0_pay1 (F := Ideal) (k0_pay4 (F := Ideal) (argW m c)) (k0_pay9 (F := Ideal) (argW m c) (argX m c)) (k0_pay10 (F := Ideal) (argX m c)) := by
  refine (dats m 0 c).arrAt_eq_of_after_last 2 t0_0 (by decide +kernel) _ fun j => ?_
  blk_simp
  rw [after0_2, outsAt0]
  frame_out
  simp only [read_unread_whole]
  rw [blk0, blk1]

end Cert.ReferenceIdeal.Arr
-- ==== Proof.Value.ReferenceResults.lean ====
/-
  What the reference's five results hold at the end of its run, on the extended reals: the functions of Spec.lean at the two
  arguments.
-/
module

public import proofs.«01_k».proof.Proof.Value.Spec
public import proofs.«01_k».proof.Proof.Value.ReferencePay
public import proofs.«01_k».proof.Proof.Value.ReferenceArr
public import Idealize.ShloMosaic.Lib.Claim

@[expose] public section

set_option maxRecDepth 16384

noncomputable section

namespace Cert.ReferenceIdeal.Results

open Cert.ReferenceIdeal Cert.ReferenceIdeal.Gen Cert.ReferenceIdeal.Arr Cert.ReferenceIdeal.Pay Cert.Quant
open Idealize.ShloMosaic Idealize.ShloMosaic.TcCoe

variable (m : (l : Loc nD τ sig) → Buf (Elt Ideal) l) (c : Dev nD)

/-- The activations, as a function of three numbers. -/
abbrev X : Spec.Acts := fun b r k => argX m c (ix3 b r k)
/-- The weights, as a function of two numbers. -/
abbrev Wt : Spec.Weights := fun o k => argW m c (ix2 o k)

theorem mean_eq : k0_pay4 (F := Ideal) (argW m c) = Spec.mean (Wt m c) := gamma_eq (argW m c)

/-- The product. -/
theorem res_product (b : Fin 24) (r : Fin 1024) (o : Fin 8960) :
    ((dats m 0 c).arrAt 2 cfg0.N : Vec Ideal S24x1024x8960 .bf16) (ix3 b r o) = Spec.product (X m c) (Wt m c) b r o := by
  rw [arr2, prod_apply, dot_apply, spread_apply, mean_eq]
  rfl

/-- The packed weights. -/
theorem res_packed (o : Fin 8960) (l : Fin 384) :
    ((dats m 0 c).arrAt 3 cfg0.N : Vec Ideal S8960x384 .i8) (ix2 o l) = Spec.packed (Wt m c) o l := by
  rw [arr3, packed_apply]
  simp only [trit_apply, mean_eq]
  rfl

/-- The mean magnitude. -/
theorem res_mean : (dats m 0 c).arrAt 4 cfg0.N = fun _ => Spec.mean (Wt m c) := by
  rw [arr4, mean_eq]

/-- The codes. -/
theorem res_codes (b : Fin 24) (r : Fin 1024) (k : Fin 1536) :
    ((dats m 0 c).arrAt 5 cfg0.N : Vec Ideal S24x1024x1536 .i8) (ix3 b r k) = Spec.codeByte (X m c) b r k := by
  rw [arr5, codes_apply]
  rfl

/-- The rows' scales. -/
theorem res_scales (b : Fin 24) (r : Fin 1024) :
    ((dats m 0 c).arrAt 6 cfg0.N : Vec Ideal S24x1024 .f32) (ix2 b r) = Spec.rowScale (X m c) b r := by
  rw [arr6, scale_apply]
  rfl

/-- The mean magnitude as the host's reshape leaves it. -/
theorem tail_mean : Pipeline.afterTail₀ cfgs (dats m) 0 (V0 m) [hostOps1] c main_v1 = (fun _ => Spec.mean (Wt m c) : Vec Ideal S_ .f32) := by
  have e : Pipeline.withArrays spec0 c (V0 m c) (fun w => (dats m 0 c).arrAt w cfg0.N) (Proc.devRef .tc main_v0_2) = (dats m 0 c).arrAt 4 cfg0.N :=
    Pipeline.withArrays_arr spec0 launch0.win.arr_inj c (V0 m c) (fun w => (dats m 0 c).arrAt w cfg0.N) 4
  show StableHlo.after hostOps1 (Pipeline.withArrays spec0 c (V0 m c) fun w => (dats m 0 c).arrAt w cfg0.N) (Proc.devRef .tc main_v1) = _
  after_results
  refine (congrArg (fun A => shapeCast S_ A shapeCasts_S1x1_S_) (e.trans (res_mean m c))).trans ?_
  rfl

/-- The run: its five results at these arrays, the arguments unchanged. -/
theorem run_results (ρ : Dev nD → PrngReg) :
    θ_run defs (onTc (τ := τ) (main (F := Ideal))) ⟨m, fun _ => 0, ρ⟩ (fun r => ∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_v1) = (fun _ => Spec.mean (Wt m c) : Vec Ideal S_ .f32)
      ∧ r.2.mem ((c.tc : Thread nD τ).loc main_v0_3) = (dats m 0 c).arrAt 5 cfg0.N
      ∧ r.2.mem ((c.tc : Thread nD τ).loc main_v0_4) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Gen.run_main m ρ
  exact tail_mean m c

end Cert.ReferenceIdeal.Results
-- ==== Proof.Value.Algebraic.lean ====
/-
  The kernel and the reference compute the same five results on the extended reals: both leave the functions of Spec.lean at
  the arguments, whatever the arguments hold.
-/
module

public import proofs.«01_k».proof.Defs
public import proofs.«01_k».proof.Proof.Value.KernelResults
public import proofs.«01_k».proof.Proof.Value.ReferenceResults

@[expose] public section

set_option maxRecDepth 16384

noncomputable section

namespace Cert.Algebraic

open Idealize.ShloMosaic Idealize.ShloMosaic.TcCoe

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two programs are given the same activations. -/
abbrev SameX : Prop := (ReferenceIdeal.Arr.argX m' c : Vec Ideal KernelIdeal.S24x1024x1536 .bf16) = KernelIdeal.Results.argX m c
/-- The two programs are given the same weights. -/
abbrev SameW : Prop := (ReferenceIdeal.Arr.argW m' c : Vec Ideal KernelIdeal.S8960x1536 .bf16) = KernelIdeal.Results.argW m c

theorem acts_eq (h : SameX m m' c) : ReferenceIdeal.Results.X m' c = KernelIdeal.Results.X m c :=
  funext fun b => funext fun r => funext fun k => congrFun h (ix3 b r k)

theorem weights_eq (h : SameW m m' c) : ReferenceIdeal.Results.Wt m' c = KernelIdeal.Results.Wt m c :=
  funext fun o => funext fun k => congrFun h (ix2 o k)

/-- The products agree. -/
theorem product_eq (hx : SameX m m' c) (hw : SameW m m' c) :
    ((ReferenceIdeal.Gen.dats m' 0 c).arrAt 2 ReferenceIdeal.cfg0.N : Vec Ideal KernelIdeal.S24x1024x8960 .bf16) = KernelIdeal.Run.W5 m c KernelIdeal.main_v4 := by
  funext y
  obtain ⟨b, r, o, rfl⟩ : ∃ (b : Fin 24) (r : Fin 1024) (o : Fin 8960), y = ix3 b r o := ⟨y 0, y 1, y 2, eq_ix3 y⟩
  refine (ReferenceIdeal.Results.res_product m' c b r o).trans (Eq.trans ?_ (KernelIdeal.Results.res_product m c b r o).symm)
  rw [acts_eq m m' c hx, weights_eq m m' c hw]

/-- The packed weights agree. -/
theorem packed_eq (hw : SameW m m' c) :
    ((ReferenceIdeal.Gen.dats m' 0 c).arrAt 3 ReferenceIdeal.cfg0.N : Vec Ideal KernelIdeal.S8960x384 .i8) = KernelIdeal.Run.W5 m c KernelIdeal.main_v2_1 := by
  funext y
  obtain ⟨o, l, rfl⟩ : ∃ (o : Fin 8960) (l : Fin 384), y = ix2 o l := ⟨y 0, y 1, eq_ix2 y⟩
  refine (ReferenceIdeal.Results.res_packed m' c o l).trans (Eq.trans ?_ (KernelIdeal.Results.res_packed m c o l).symm)
  rw [weights_eq m m' c hw]

/-- The mean magnitudes agree. -/
theorem mean_eq (hw : SameW m m' c) :
    (fun _ => Spec.mean (ReferenceIdeal.Results.Wt m' c) : Vec Ideal KernelIdeal.S_ .f32) = KernelIdeal.Run.W5 m c KernelIdeal.main_v5 := by
  refine Eq.trans ?_ (KernelIdeal.Results.res_mean m c).symm
  exact funext fun _ => congrArg Spec.mean (weights_eq m m' c hw)

/-- The codes agree. -/
theorem codes_eq (hx : SameX m m' c) :
    ((ReferenceIdeal.Gen.dats m' 0 c).arrAt 5 ReferenceIdeal.cfg0.N : Vec Ideal KernelIdeal.S24x1024x1536 .i8) = KernelIdeal.Run.W5 m c KernelIdeal.main_v6 := by
  funext y
  obtain ⟨b, r, k, rfl⟩ : ∃ (b : Fin 24) (r : Fin 1024) (k : Fin 1536), y = ix3 b r k := ⟨y 0, y 1, y 2, eq_ix3 y⟩
  refine (ReferenceIdeal.Results.res_codes m' c b r k).trans (Eq.trans ?_ (KernelIdeal.Results.res_codes m c b r k).symm)
  rw [acts_eq m m' c hx]

/-- The scales agree. -/
theorem scales_eq (hx : SameX m m' c) :
    ((ReferenceIdeal.Gen.dats m' 0 c).arrAt 6 ReferenceIdeal.cfg0.N : Vec Ideal KernelIdeal.S24x1024 .f32) = KernelIdeal.Run.W5 m c KernelIdeal.main_v7 := by
  funext y
  obtain ⟨b, r, rfl⟩ : ∃ (b : Fin 24) (r : Fin 1024), y = ix2 b r := ⟨y 0, y 1, eq_ix2 y⟩
  refine (ReferenceIdeal.Results.res_scales m' c b r).trans (Eq.trans ?_ (KernelIdeal.Results.res_scales m c b r).symm)
  rw [acts_eq m m' c hx]

/-- From the same arguments both programs run to the same five results and leave their arguments unchanged. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => KernelIdeal.Run.W5 m c KernelIdeal.main_v4, fun c => KernelIdeal.Run.W5 m c KernelIdeal.main_v2_1,
    fun c => KernelIdeal.Run.W5 m c KernelIdeal.main_v5, fun c => KernelIdeal.Run.W5 m c KernelIdeal.main_v6,
    fun c => KernelIdeal.Run.W5 m c KernelIdeal.main_v7, KernelIdeal.Run.run_results m g, ?_⟩
  refine (θ_run _ _ _).mono (fun r h c => ?_) (ReferenceIdeal.Results.run_results m' g')
  obtain ⟨h0, h1, h2, h3, h4, ha, hb⟩ := h c
  have hx : SameX m m' c := (hagree c).1
  have hw : SameW m m' c := (hagree c).2
  exact ⟨h0.trans (product_eq m m' c hx hw), h1.trans (packed_eq m m' c hw), h2.trans (mean_eq m m' c hw), h3.trans (codes_eq m m' c hx),
    h4.trans (scales_eq m m' c hx), ha, hb⟩

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.run_frame m ρ, fun m ρ _ => Cert.KernelIdeal.Run.run_frame m ρ,
  fun m ρ _ => Cert.ReferenceIdeal.Gen.frame m ρ, trivial, Cert.Algebraic.algebraic⟩

end Cert.Proof

end
